-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_reach [hPre_within_reach : Cert.Pre_within_reach.Facts] (m : (ℓ : Loc Cert.KernelIdeal.nD Cert.KernelIdeal.τ Cert.KernelIdeal.sig) → Buf (Elt Ideal) ℓ) : Prop :=
  ∀ c : Dev Cert.KernelIdeal.nD,
    (Cert.Pre_within_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_within_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_reach [hPre_within_reach : Cert.Pre_within_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_within_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_within_reach [hKernelIdeal : Cert.KernelIdeal.Facts] [hPre_within_reach : Cert.Pre_within_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_within_reach [hReferenceIdeal : Cert.ReferenceIdeal.Facts] [hPre_within_reach : Cert.Pre_within_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_within_reach [hKernelIdeal : Cert.KernelIdeal.Facts] [hReferenceIdeal : Cert.ReferenceIdeal.Facts] [hPre_within_reach : Cert.Pre_within_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v301) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_within_reach : Cert.Pre_within_reach.Facts),
    quiescent_Kernel (hKernel := hKernel)
    ∧ quiescent_KernelIdeal (hKernelIdeal := hKernelIdeal)
    ∧ quiescent_KernelIdeal_pre_within_reach (hKernelIdeal := hKernelIdeal) (hPre_within_reach := hPre_within_reach)
    ∧ quiescent_ReferenceIdeal (hReferenceIdeal := hReferenceIdeal)
    ∧ quiescent_ReferenceIdeal_pre_within_reach (hReferenceIdeal := hReferenceIdeal) (hPre_within_reach := hPre_within_reach)
    ∧ preserves_Kernel_KernelIdeal
    ∧ algebraic_KernelIdeal_ReferenceIdeal_pre_within_reach (hKernelIdeal := hKernelIdeal) (hReferenceIdeal := hReferenceIdeal) (hPre_within_reach := hPre_within_reach)
-- ==== Pre_within_reach.lean ====
abbrev S2x224x224x96 : Shape := ⟨4, ![2, 224, 224, 96]⟩
abbrev S96x96 : Shape := ⟨2, ![96, 96]⟩
abbrev S96 : Shape := ⟨1, ![96]⟩
abbrev S3x3x1x96 : Shape := ⟨4, ![3, 3, 1, 96]⟩
abbrev S1x1x96x96 : Shape := ⟨4, ![1, 1, 96, 96]⟩
abbrev S96x72 : Shape := ⟨2, ![96, 72]⟩
abbrev S72 : Shape := ⟨1, ![72]⟩
abbrev S96x36 : Shape := ⟨2, ![96, 36]⟩
abbrev S36 : Shape := ⟨1, ![36]⟩
abbrev S_ : Shape := ⟨0, ![]⟩
abbrev S2x226x226x96 : Shape := ⟨4, ![2, 226, 226, 96]⟩
abbrev S1x1x1x96 : Shape := ⟨4, ![1, 1, 1, 96]⟩
abbrev S2x224x224x72 : Shape := ⟨4, ![2, 224, 224, 72]⟩
abbrev S1x1x1x72 : Shape := ⟨4, ![1, 1, 1, 72]⟩
abbrev S2x224x224x36 : Shape := ⟨4, ![2, 224, 224, 36]⟩
abbrev S1x1x1x36 : Shape := ⟨4, ![1, 1, 1, 36]⟩

class Facts : Prop where
  pads_S2x224x224x96_S2x226x226x96_000_110_110_000 : S2x224x224x96.Pads (![0, 1, 1, 0] : Fin 4 → Nat) ![0, 1, 1, 0] ![0, 0, 0, 0] S2x226x226x96
  h_S_ : 0 < S_.numel
  bcast_S_S2x224x224x96 : S_.BroadcastsInDim S2x224x224x96 (![] : Fin 0 → Fin S2x224x224x96.rank)
  slices_S2x226x226x96_S2x224x224x96_0_0_0_0 : S2x226x226x96.Slices ![0, 0, 0, 0] S2x224x224x96
  slices_S3x3x1x96_S1x1x1x96_0_0_0_0 : S3x3x1x96.Slices ![0, 0, 0, 0] S1x1x1x96
  shapeCasts_S1x1x1x96_S96 : S1x1x1x96.ShapeCasts S96
  bcast_S96_S1x1x1x96_3 : S96.BroadcastsInDim S1x1x1x96 (![3] : Fin 1 → Fin S1x1x1x96.rank)
  bcast_S1x1x1x96_S2x224x224x96_0_1_2_3 : S1x1x1x96.BroadcastsInDim S2x224x224x96 (![0, 1, 2, 3] : Fin 4 → Fin S2x224x224x96.rank)
  slices_S2x226x226x96_S2x224x224x96_0_0_1_0 : S2x226x226x96.Slices ![0, 0, 1, 0] S2x224x224x96
  slices_S3x3x1x96_S1x1x1x96_0_1_0_0 : S3x3x1x96.Slices ![0, 1, 0, 0] S1x1x1x96
  slices_S2x226x226x96_S2x224x224x96_0_0_2_0 : S2x226x226x96.Slices ![0, 0, 2, 0] S2x224x224x96
  slices_S3x3x1x96_S1x1x1x96_0_2_0_0 : S3x3x1x96.Slices ![0, 2, 0, 0] S1x1x1x96
  slices_S2x226x226x96_S2x224x224x96_0_1_0_0 : S2x226x226x96.Slices ![0, 1, 0, 0] S2x224x224x96
  slices_S3x3x1x96_S1x1x1x96_1_0_0_0 : S3x3x1x96.Slices ![1, 0, 0, 0] S1x1x1x96
  slices_S2x226x226x96_S2x224x224x96_0_1_1_0 : S2x226x226x96.Slices ![0, 1, 1, 0] S2x224x224x96
  slices_S3x3x1x96_S1x1x1x96_1_1_0_0 : S3x3x1x96.Slices ![1, 1, 0, 0] S1x1x1x96
  slices_S2x226x226x96_S2x224x224x96_0_1_2_0 : S2x226x226x96.Slices ![0, 1, 2, 0] S2x224x224x96
  slices_S3x3x1x96_S1x1x1x96_1_2_0_0 : S3x3x1x96.Slices ![1, 2, 0, 0] S1x1x1x96
  slices_S2x226x226x96_S2x224x224x96_0_2_0_0 : S2x226x226x96.Slices ![0, 2, 0, 0] S2x224x224x96
  slices_S3x3x1x96_S1x1x1x96_2_0_0_0 : S3x3x1x96.Slices ![2, 0, 0, 0] S1x1x1x96
  slices_S2x226x226x96_S2x224x224x96_0_2_1_0 : S2x226x226x96.Slices ![0, 2, 1, 0] S2x224x224x96
  slices_S3x3x1x96_S1x1x1x96_2_1_0_0 : S3x3x1x96.Slices ![2, 1, 0, 0] S1x1x1x96
  slices_S2x226x226x96_S2x224x224x96_0_2_2_0 : S2x226x226x96.Slices ![0, 2, 2, 0] S2x224x224x96
  slices_S3x3x1x96_S1x1x1x96_2_2_0_0 : S3x3x1x96.Slices ![2, 2, 0, 0] S1x1x1x96
  shapeCasts_S1x1x96x96_S96x96 : S1x1x96x96.ShapeCasts S96x96
  bcast_S72_S1x1x1x72_3 : S72.BroadcastsInDim S1x1x1x72 (![3] : Fin 1 → Fin S1x1x1x72.rank)
  bcast_S1x1x1x72_S2x224x224x72_0_1_2_3 : S1x1x1x72.BroadcastsInDim S2x224x224x72 (![0, 1, 2, 3] : Fin 4 → Fin S2x224x224x72.rank)
  bcast_S_S2x224x224x72 : S_.BroadcastsInDim S2x224x224x72 (![] : Fin 0 → Fin S2x224x224x72.rank)
  bcast_S36_S1x1x1x36_3 : S36.BroadcastsInDim S1x1x1x36 (![3] : Fin 1 → Fin S1x1x1x36.rank)
  bcast_S1x1x1x36_S2x224x224x36_0_1_2_3 : S1x1x1x36.BroadcastsInDim S2x224x224x36 (![0, 1, 2, 3] : Fin 4 → Fin S2x224x224x36.rank)
  bcast_S_S2x224x224x36 : S_.BroadcastsInDim S2x224x224x36 (![] : Fin 0 → Fin S2x224x224x36.rank)
  dot_S2x224x224x96_S96x96_S2x224x224x96_3_0_012_1_n_n_wf : DotDims.WF S2x224x224x96 S96x96 S2x224x224x96 [3] [0] [0, 1, 2] [1] [] []
  dot_S2x224x224x96_S96x72_S2x224x224x72_3_0_012_1_n_n_wf : DotDims.WF S2x224x224x96 S96x72 S2x224x224x72 [3] [0] [0, 1, 2] [1] [] []
  dot_S2x224x224x96_S96x36_S2x224x224x36_3_0_012_1_n_n_wf : DotDims.WF S2x224x224x96 S96x36 S2x224x224x36 [3] [0] [0, 1, 2] [1] [] []

variable [Facts]

def dot_S2x224x224x96_S96x96_S2x224x224x96_3_0_012_1_n_n : DotDims S2x224x224x96 S96x96 S2x224x224x96 where
  lhsContracting := [3]
  rhsContracting := [0]
  lhsNonContracting := [0, 1, 2]
  rhsNonContracting := [1]
  lhsBatch := []
  rhsBatch := []
  wf := dot_S2x224x224x96_S96x96_S2x224x224x96_3_0_012_1_n_n_wf
def dot_S2x224x224x96_S96x72_S2x224x224x72_3_0_012_1_n_n : DotDims S2x224x224x96 S96x72 S2x224x224x72 where
  lhsContracting := [3]
  rhsContracting := [0]
  lhsNonContracting := [0, 1, 2]
  rhsNonContracting := [1]
  lhsBatch := []
  rhsBatch := []
  wf := dot_S2x224x224x96_S96x72_S2x224x224x72_3_0_012_1_n_n_wf
def dot_S2x224x224x96_S96x36_S2x224x224x36_3_0_012_1_n_n : DotDims S2x224x224x96 S96x36 S2x224x224x36 where
  lhsContracting := [3]
  rhsContracting := [0]
  lhsNonContracting := [0, 1, 2]
  rhsNonContracting := [1]
  lhsBatch := []
  rhsBatch := []
  wf := dot_S2x224x224x96_S96x36_S2x224x224x36_3_0_012_1_n_n_wf
def fn_pad {F : FTy → Type} [FloatOps F] (arg0 : FVec F S2x224x224x96 .f32) (arg1 : IVec S_ 32) : FVec F S2x226x226x96 .f32 :=
  let v0 : FVec F S_ .f32 := sitofp .f32 arg1
  let v1 : FVec F S2x226x226x96 .f32 := (fun x v => pad S2x226x226x96 ![0, 1, 1, 0] ![0, 1, 1, 0] ![0, 0, 0, 0] x v pads_S2x224x224x96_S2x226x226x96_000_110_110_000 h_S_) arg0 v0
  v1

def fn_part4 {F : FTy → Type} [FloatOps F] (main_v89 : FVec F S2x224x224x36 .f32) (main_v90 : FVec F S2x224x224x72 .f32) : IVec S2x224x224x72 1 × IVec S2x224x224x36 1 :=
  let main_cst_3 : FVec F S_ .f32 := constant S_ .f32 0x3F800000#32
  let main_v91 : FVec F S2x224x224x72 .f32 := broadcastInDim S2x224x224x72 ![] bcast_S_S2x224x224x72 main_cst_3
  let main_v92 : IVec S2x224x224x72 1 := cmpf .ole main_v90 main_v91
  let main_v93 : FVec F S2x224x224x36 .f32 := Host.absf main_v89
  let main_cst_4 : FVec F S_ .f32 := constant S_ .f32 0x7F800000#32
  let main_v94 : FVec F S2x224x224x36 .f32 := broadcastInDim S2x224x224x36 ![] bcast_S_S2x224x224x36 main_cst_4
  let main_v95 : IVec S2x224x224x36 1 := cmpf .olt main_v93 main_v94
  (main_v92, main_v95)

def fn_part3 {F : FTy → Type} [FloatOps F] (main_arg7 : FVec F S1x1x96x96 .f32) (main_arg8 : FVec F S96 .f32) (main_arg9 : FVec F S96x72 .f32) (main_arg10 : FVec F S72 .f32) (main_arg11 : FVec F S96x36 .f32) (main_arg12 : FVec F S36 .f32) (main_v67 : FVec F S2x224x224x96 .f32) (main_v69 : FVec F S2x224x224x96 .f32) : IVec S2x224x224x72 1 × IVec S2x224x224x36 1 :=
  let main_cst_0 : FVec F S_ .f32 := constant S_ .f32 0x3F800000#32
  let main_v70 : FVec F S2x224x224x96 .f32 := broadcastInDim S2x224x224x96 ![] bcast_S_S2x224x224x96 main_cst_0
  let main_v71 : FVec F S2x224x224x96 .f32 := addf main_v70 main_v69
  let main_cst_1 : FVec F S_ .f32 := constant S_ .f32 0x3F800000#32
  let main_v72 : FVec F S2x224x224x96 .f32 := broadcastInDim S2x224x224x96 ![] bcast_S_S2x224x224x96 main_cst_1
  let main_v73 : FVec F S2x224x224x96 .f32 := Host.divf main_v72 main_v71
  let main_v74 : FVec F S2x224x224x96 .f32 := mulf main_v67 main_v73
  let main_v75 : FVec F S96x96 .f32 := shapeCast S96x96 main_arg7 shapeCasts_S1x1x96x96_S96x96
  let main_v76 : FVec F S2x224x224x96 .f32 := (fun l r => Host.dotGeneral dot_S2x224x224x96_S96x96_S2x224x224x96_3_0_012_1_n_n none l r) main_v74 main_v75
  let main_v77 : FVec F S1x1x1x96 .f32 := broadcastInDim S1x1x1x96 ![3] bcast_S96_S1x1x1x96_3 main_arg8
  let main_v78 : FVec F S2x224x224x96 .f32 := broadcastInDim S2x224x224x96 ![0, 1, 2, 3] bcast_S1x1x1x96_S2x224x224x96_0_1_2_3 main_v77
  let main_v79 : FVec F S2x224x224x96 .f32 := addf main_v76 main_v78
  let main_v80 : FVec F S2x224x224x72 .f32 := (fun l r => Host.dotGeneral dot_S2x224x224x96_S96x72_S2x224x224x72_3_0_012_1_n_n none l r) main_v79 main_arg9
  let main_v81 : FVec F S1x1x1x72 .f32 := broadcastInDim S1x1x1x72 ![3] bcast_S72_S1x1x1x72_3 main_arg10
  let main_v82 : FVec F S2x224x224x72 .f32 := broadcastInDim S2x224x224x72 ![0, 1, 2, 3] bcast_S1x1x1x72_S2x224x224x72_0_1_2_3 main_v81
  let main_v83 : FVec F S2x224x224x72 .f32 := addf main_v80 main_v82
  let main_cst_2 : FVec F S_ .f32 := constant S_ .f32 0x3DCCCCCD#32
  let main_v84 : FVec F S2x224x224x72 .f32 := broadcastInDim S2x224x224x72 ![] bcast_S_S2x224x224x72 main_cst_2
  let main_v85 : FVec F S2x224x224x72 .f32 := mulf main_v83 main_v84
  let main_v86 : FVec F S2x224x224x36 .f32 := (fun l r => Host.dotGeneral dot_S2x224x224x96_S96x36_S2x224x224x36_3_0_012_1_n_n none l r) main_v79 main_arg11
  let main_v87 : FVec F S1x1x1x36 .f32 := broadcastInDim S1x1x1x36 ![3] bcast_S36_S1x1x1x36_3 main_arg12
  let main_v88 : FVec F S2x224x224x36 .f32 := broadcastInDim S2x224x224x36 ![0, 1, 2, 3] bcast_S1x1x1x36_S2x224x224x36_0_1_2_3 main_v87
  let main_v89 : FVec F S2x224x224x36 .f32 := addf main_v86 main_v88
  let main_v90 : FVec F S2x224x224x72 .f32 := Host.absf main_v85
  fn_part4 (F := F) main_v89 main_v90

def fn_part2 {F : FTy → Type} [FloatOps F] (main_arg5 : FVec F S3x3x1x96 .f32) (main_arg6 : FVec F S96 .f32) (main_arg7 : FVec F S1x1x96x96 .f32) (main_arg8 : FVec F S96 .f32) (main_arg9 : FVec F S96x72 .f32) (main_arg10 : FVec F S72 .f32) (main_arg11 : FVec F S96x36 .f32) (main_arg12 : FVec F S36 .f32) (main_v0 : FVec F S2x226x226x96 .f32) (main_v43 : FVec F S2x224x224x96 .f32) (main_v44 : FVec F S2x224x224x96 .f32) (main_v45 : FVec F S1x1x1x96 .f32) : IVec S2x224x224x72 1 × IVec S2x224x224x36 1 :=
  let main_v46 : FVec F S96 .f32 := shapeCast S96 main_v45 shapeCasts_S1x1x1x96_S96
  let main_v47 : FVec F S1x1x1x96 .f32 := broadcastInDim S1x1x1x96 ![3] bcast_S96_S1x1x1x96_3 main_v46
  let main_v48 : FVec F S2x224x224x96 .f32 := broadcastInDim S2x224x224x96 ![0, 1, 2, 3] bcast_S1x1x1x96_S2x224x224x96_0_1_2_3 main_v47
  let main_v49 : FVec F S2x224x224x96 .f32 := mulf main_v44 main_v48
  let main_v50 : FVec F S2x224x224x96 .f32 := addf main_v43 main_v49
  let main_v51 : FVec F S2x224x224x96 .f32 := (extractStridedSlice S2x224x224x96 ![0, 2, 1, 0] · slices_S2x226x226x96_S2x224x224x96_0_2_1_0) main_v0
  let main_v52 : FVec F S1x1x1x96 .f32 := (extractStridedSlice S1x1x1x96 ![2, 1, 0, 0] · slices_S3x3x1x96_S1x1x1x96_2_1_0_0) main_arg5
  let main_v53 : FVec F S96 .f32 := shapeCast S96 main_v52 shapeCasts_S1x1x1x96_S96
  let main_v54 : FVec F S1x1x1x96 .f32 := broadcastInDim S1x1x1x96 ![3] bcast_S96_S1x1x1x96_3 main_v53
  let main_v55 : FVec F S2x224x224x96 .f32 := broadcastInDim S2x224x224x96 ![0, 1, 2, 3] bcast_S1x1x1x96_S2x224x224x96_0_1_2_3 main_v54
  let main_v56 : FVec F S2x224x224x96 .f32 := mulf main_v51 main_v55
  let main_v57 : FVec F S2x224x224x96 .f32 := addf main_v50 main_v56
  let main_v58 : FVec F S2x224x224x96 .f32 := (extractStridedSlice S2x224x224x96 ![0, 2, 2, 0] · slices_S2x226x226x96_S2x224x224x96_0_2_2_0) main_v0
  let main_v59 : FVec F S1x1x1x96 .f32 := (extractStridedSlice S1x1x1x96 ![2, 2, 0, 0] · slices_S3x3x1x96_S1x1x1x96_2_2_0_0) main_arg5
  let main_v60 : FVec F S96 .f32 := shapeCast S96 main_v59 shapeCasts_S1x1x1x96_S96
  let main_v61 : FVec F S1x1x1x96 .f32 := broadcastInDim S1x1x1x96 ![3] bcast_S96_S1x1x1x96_3 main_v60
  let main_v62 : FVec F S2x224x224x96 .f32 := broadcastInDim S2x224x224x96 ![0, 1, 2, 3] bcast_S1x1x1x96_S2x224x224x96_0_1_2_3 main_v61
  let main_v63 : FVec F S2x224x224x96 .f32 := mulf main_v58 main_v62
  let main_v64 : FVec F S2x224x224x96 .f32 := addf main_v57 main_v63
  let main_v65 : FVec F S1x1x1x96 .f32 := broadcastInDim S1x1x1x96 ![3] bcast_S96_S1x1x1x96_3 main_arg6
  let main_v66 : FVec F S2x224x224x96 .f32 := broadcastInDim S2x224x224x96 ![0, 1, 2, 3] bcast_S1x1x1x96_S2x224x224x96_0_1_2_3 main_v65
  let main_v67 : FVec F S2x224x224x96 .f32 := addf main_v64 main_v66
  let main_v68 : FVec F S2x224x224x96 .f32 := Host.negf main_v67
  let main_v69 : FVec F S2x224x224x96 .f32 := Host.exp main_v68
  fn_part3 (F := F) main_arg7 main_arg8 main_arg9 main_arg10 main_arg11 main_arg12 main_v67 main_v69

def fn_part1 {F : FTy → Type} [FloatOps F] (main_arg5 : FVec F S3x3x1x96 .f32) (main_arg6 : FVec F S96 .f32) (main_arg7 : FVec F S1x1x96x96 .f32) (main_arg8 : FVec F S96 .f32) (main_arg9 : FVec F S96x72 .f32) (main_arg10 : FVec F S72 .f32) (main_arg11 : FVec F S96x36 .f32) (main_arg12 : FVec F S36 .f32) (main_v0 : FVec F S2x226x226x96 .f32) (main_v15 : FVec F S2x224x224x96 .f32) (main_v21 : FVec F S2x224x224x96 .f32) : IVec S2x224x224x72 1 × IVec S2x224x224x36 1 :=
  let main_v22 : FVec F S2x224x224x96 .f32 := addf main_v15 main_v21
  let main_v23 : FVec F S2x224x224x96 .f32 := (extractStridedSlice S2x224x224x96 ![0, 1, 0, 0] · slices_S2x226x226x96_S2x224x224x96_0_1_0_0) main_v0
  let main_v24 : FVec F S1x1x1x96 .f32 := (extractStridedSlice S1x1x1x96 ![1, 0, 0, 0] · slices_S3x3x1x96_S1x1x1x96_1_0_0_0) main_arg5
  let main_v25 : FVec F S96 .f32 := shapeCast S96 main_v24 shapeCasts_S1x1x1x96_S96
  let main_v26 : FVec F S1x1x1x96 .f32 := broadcastInDim S1x1x1x96 ![3] bcast_S96_S1x1x1x96_3 main_v25
  let main_v27 : FVec F S2x224x224x96 .f32 := broadcastInDim S2x224x224x96 ![0, 1, 2, 3] bcast_S1x1x1x96_S2x224x224x96_0_1_2_3 main_v26
  let main_v28 : FVec F S2x224x224x96 .f32 := mulf main_v23 main_v27
  let main_v29 : FVec F S2x224x224x96 .f32 := addf main_v22 main_v28
  let main_v30 : FVec F S2x224x224x96 .f32 := (extractStridedSlice S2x224x224x96 ![0, 1, 1, 0] · slices_S2x226x226x96_S2x224x224x96_0_1_1_0) main_v0
  let main_v31 : FVec F S1x1x1x96 .f32 := (extractStridedSlice S1x1x1x96 ![1, 1, 0, 0] · slices_S3x3x1x96_S1x1x1x96_1_1_0_0) main_arg5
  let main_v32 : FVec F S96 .f32 := shapeCast S96 main_v31 shapeCasts_S1x1x1x96_S96
  let main_v33 : FVec F S1x1x1x96 .f32 := broadcastInDim S1x1x1x96 ![3] bcast_S96_S1x1x1x96_3 main_v32
  let main_v34 : FVec F S2x224x224x96 .f32 := broadcastInDim S2x224x224x96 ![0, 1, 2, 3] bcast_S1x1x1x96_S2x224x224x96_0_1_2_3 main_v33
  let main_v35 : FVec F S2x224x224x96 .f32 := mulf main_v30 main_v34
  let main_v36 : FVec F S2x224x224x96 .f32 := addf main_v29 main_v35
  let main_v37 : FVec F S2x224x224x96 .f32 := (extractStridedSlice S2x224x224x96 ![0, 1, 2, 0] · slices_S2x226x226x96_S2x224x224x96_0_1_2_0) main_v0
  let main_v38 : FVec F S1x1x1x96 .f32 := (extractStridedSlice S1x1x1x96 ![1, 2, 0, 0] · slices_S3x3x1x96_S1x1x1x96_1_2_0_0) main_arg5
  let main_v39 : FVec F S96 .f32 := shapeCast S96 main_v38 shapeCasts_S1x1x1x96_S96
  let main_v40 : FVec F S1x1x1x96 .f32 := broadcastInDim S1x1x1x96 ![3] bcast_S96_S1x1x1x96_3 main_v39
  let main_v41 : FVec F S2x224x224x96 .f32 := broadcastInDim S2x224x224x96 ![0, 1, 2, 3] bcast_S1x1x1x96_S2x224x224x96_0_1_2_3 main_v40
  let main_v42 : FVec F S2x224x224x96 .f32 := mulf main_v37 main_v41
  let main_v43 : FVec F S2x224x224x96 .f32 := addf main_v36 main_v42
  let main_v44 : FVec F S2x224x224x96 .f32 := (extractStridedSlice S2x224x224x96 ![0, 2, 0, 0] · slices_S2x226x226x96_S2x224x224x96_0_2_0_0) main_v0
  let main_v45 : FVec F S1x1x1x96 .f32 := (extractStridedSlice S1x1x1x96 ![2, 0, 0, 0] · slices_S3x3x1x96_S1x1x1x96_2_0_0_0) main_arg5
  fn_part2 (F := F) main_arg5 main_arg6 main_arg7 main_arg8 main_arg9 main_arg10 main_arg11 main_arg12 main_v0 main_v43 main_v44 main_v45

def fn {F : FTy → Type} [FloatOps F] (main_arg0 : FVec F S2x224x224x96 .f32) (main_arg1 : FVec F S96x96 .f32) (main_arg2 : FVec F S96 .f32) (main_arg3 : FVec F S96x96 .f32) (main_arg4 : FVec F S96 .f32) (main_arg5 : FVec F S3x3x1x96 .f32) (main_arg6 : FVec F S96 .f32) (main_arg7 : FVec F S1x1x96x96 .f32) (main_arg8 : FVec F S96 .f32) (main_arg9 : FVec F S96x72 .f32) (main_arg10 : FVec F S72 .f32) (main_arg11 : FVec F S96x36 .f32) (main_arg12 : FVec F S36 .f32) : IVec S2x224x224x72 1 × IVec S2x224x224x36 1 :=
  let main_c : IVec S_ 32 := constantI S_ 32 0#32
  let main_v0 : FVec F S2x226x226x96 .f32 := fn_pad (F := F) main_arg0 main_c
  let main_cst : FVec F S_ .f32 := constant S_ .f32 0x00000000#32
  let main_v1 : FVec F S2x224x224x96 .f32 := broadcastInDim S2x224x224x96 ![] bcast_S_S2x224x224x96 main_cst
  let main_v2 : FVec F S2x224x224x96 .f32 := (extractStridedSlice S2x224x224x96 ![0, 0, 0, 0] · slices_S2x226x226x96_S2x224x224x96_0_0_0_0) main_v0
  let main_v3 : FVec F S1x1x1x96 .f32 := (extractStridedSlice S1x1x1x96 ![0, 0, 0, 0] · slices_S3x3x1x96_S1x1x1x96_0_0_0_0) main_arg5
  let main_v4 : FVec F S96 .f32 := shapeCast S96 main_v3 shapeCasts_S1x1x1x96_S96
  let main_v5 : FVec F S1x1x1x96 .f32 := broadcastInDim S1x1x1x96 ![3] bcast_S96_S1x1x1x96_3 main_v4
  let main_v6 : FVec F S2x224x224x96 .f32 := broadcastInDim S2x224x224x96 ![0, 1, 2, 3] bcast_S1x1x1x96_S2x224x224x96_0_1_2_3 main_v5
  let main_v7 : FVec F S2x224x224x96 .f32 := mulf main_v2 main_v6
  let main_v8 : FVec F S2x224x224x96 .f32 := addf main_v1 main_v7
  let main_v9 : FVec F S2x224x224x96 .f32 := (extractStridedSlice S2x224x224x96 ![0, 0, 1, 0] · slices_S2x226x226x96_S2x224x224x96_0_0_1_0) main_v0
  let main_v10 : FVec F S1x1x1x96 .f32 := (extractStridedSlice S1x1x1x96 ![0, 1, 0, 0] · slices_S3x3x1x96_S1x1x1x96_0_1_0_0) main_arg5
  let main_v11 : FVec F S96 .f32 := shapeCast S96 main_v10 shapeCasts_S1x1x1x96_S96
  let main_v12 : FVec F S1x1x1x96 .f32 := broadcastInDim S1x1x1x96 ![3] bcast_S96_S1x1x1x96_3 main_v11
  let main_v13 : FVec F S2x224x224x96 .f32 := broadcastInDim S2x224x224x96 ![0, 1, 2, 3] bcast_S1x1x1x96_S2x224x224x96_0_1_2_3 main_v12
  let main_v14 : FVec F S2x224x224x96 .f32 := mulf main_v9 main_v13
  let main_v15 : FVec F S2x224x224x96 .f32 := addf main_v8 main_v14
  let main_v16 : FVec F S2x224x224x96 .f32 := (extractStridedSlice S2x224x224x96 ![0, 0, 2, 0] · slices_S2x226x226x96_S2x224x224x96_0_0_2_0) main_v0
  let main_v17 : FVec F S1x1x1x96 .f32 := (extractStridedSlice S1x1x1x96 ![0, 2, 0, 0] · slices_S3x3x1x96_S1x1x1x96_0_2_0_0) main_arg5
  let main_v18 : FVec F S96 .f32 := shapeCast S96 main_v17 shapeCasts_S1x1x1x96_S96
  let main_v19 : FVec F S1x1x1x96 .f32 := broadcastInDim S1x1x1x96 ![3] bcast_S96_S1x1x1x96_3 main_v18
  let main_v20 : FVec F S2x224x224x96 .f32 := broadcastInDim S2x224x224x96 ![0, 1, 2, 3] bcast_S1x1x1x96_S2x224x224x96_0_1_2_3 main_v19
  let main_v21 : FVec F S2x224x224x96 .f32 := mulf main_v16 main_v20
  fn_part1 (F := F) main_arg5 main_arg6 main_arg7 main_arg8 main_arg9 main_arg10 main_arg11 main_arg12 main_v0 main_v15 main_v21
-- ==== Kernel.lean ====
abbrev S2x224x224x96 : Shape := ⟨4, ![2, 224, 224, 96]⟩
abbrev S96x96 : Shape := ⟨2, ![96, 96]⟩
abbrev S96 : Shape := ⟨1, ![96]⟩
abbrev S3x3x1x96 : Shape := ⟨4, ![3, 3, 1, 96]⟩
abbrev S1x1x96x96 : Shape := ⟨4, ![1, 1, 96, 96]⟩
abbrev S96x72 : Shape := ⟨2, ![96, 72]⟩
abbrev S72 : Shape := ⟨1, ![72]⟩
abbrev S96x36 : Shape := ⟨2, ![96, 36]⟩
abbrev S36 : Shape := ⟨1, ![36]⟩
abbrev S96x4x9x2 : Shape := ⟨4, ![96, 4, 9, 2]⟩
abbrev S96x2x4x9 : Shape := ⟨4, ![96, 2, 4, 9]⟩
abbrev S4x9x2 : Shape := ⟨3, ![4, 9, 2]⟩
abbrev S2x4x9 : Shape := ⟨3, ![2, 4, 9]⟩
abbrev S96x108 : Shape := ⟨2, ![96, 108]⟩
abbrev S108 : Shape := ⟨1, ![108]⟩
abbrev S1x108 : Shape := ⟨2, ![1, 108]⟩
abbrev S1x96 : Shape := ⟨2, ![1, 96]⟩
abbrev S9x96 : Shape := ⟨2, ![9, 96]⟩
abbrev S1x16x224x96 : Shape := ⟨4, ![1, 16, 224, 96]⟩
abbrev S1x2x224x96 : Shape := ⟨4, ![1, 2, 224, 96]⟩
abbrev S2x224x96 : Shape := ⟨3, ![2, 224, 96]⟩
abbrev S16x224x96 : Shape := ⟨3, ![16, 224, 96]⟩
abbrev S20x224x96 : Shape := ⟨3, ![20, 224, 96]⟩
abbrev S20x1x1 : Shape := ⟨3, ![20, 1, 1]⟩
abbrev S1x224x96 : Shape := ⟨3, ![1, 224, 96]⟩
abbrev S4480x96 : Shape := ⟨2, ![4480, 96]⟩
abbrev S20x1x96 : Shape := ⟨3, ![20, 1, 96]⟩
abbrev S20x228x96 : Shape := ⟨3, ![20, 228, 96]⟩
abbrev S18x224x96 : Shape := ⟨3, ![18, 224, 96]⟩
abbrev S18x1x1 : Shape := ⟨3, ![18, 1, 1]⟩
abbrev S18x1x96 : Shape := ⟨3, ![18, 1, 96]⟩
abbrev S18x226x96 : Shape := ⟨3, ![18, 226, 96]⟩
abbrev S1x1x96 : Shape := ⟨3, ![1, 1, 96]⟩
abbrev S3584x96 : Shape := ⟨2, ![3584, 96]⟩
abbrev S3584x108 : Shape := ⟨2, ![3584, 108]⟩
abbrev S16x224x108 : Shape := ⟨3, ![16, 224, 108]⟩
abbrev S16x224x36 : Shape := ⟨3, ![16, 224, 36]⟩
abbrev S16x224 : Shape := ⟨2, ![16, 224]⟩
abbrev S16x224x1 : Shape := ⟨3, ![16, 224, 1]⟩
abbrev S36x36 : Shape := ⟨2, ![36, 36]⟩
abbrev S3584x36 : Shape := ⟨2, ![3584, 36]⟩
abbrev S1x1x72 : Shape := ⟨3, ![1, 1, 72]⟩
abbrev S16x224x72 : Shape := ⟨3, ![16, 224, 72]⟩
abbrev S36x96 : Shape := ⟨2, ![36, 96]⟩

abbrev nBuf : Space → Nat
  | .hbm => 29
  | .vmem => 18
  | .smem => 0
  | _ => 0

abbrev bufTy : (tb : Table) → Fin (tcTables nBuf tb) → BufTy
  | .hbm, ⟨0, _⟩ => ⟨S2x224x224x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S3x3x1x96, .f32⟩
  | .hbm, ⟨6, _⟩ => ⟨S96, .f32⟩
  | .hbm, ⟨7, _⟩ => ⟨S1x1x96x96, .f32⟩
  | .hbm, ⟨8, _⟩ => ⟨S96, .f32⟩
  | .hbm, ⟨9, _⟩ => ⟨S96x72, .f32⟩
  | .hbm, ⟨10, _⟩ => ⟨S72, .f32⟩
  | .hbm, ⟨11, _⟩ => ⟨S96x36, .f32⟩
  | .hbm, ⟨12, _⟩ => ⟨S36, .f32⟩
  | .hbm, ⟨13, _⟩ => ⟨S96x4x9x2, .f32⟩
  | .hbm, ⟨14, _⟩ => ⟨S96x2x4x9, .f32⟩
  | .hbm, ⟨15, _⟩ => ⟨S96x72, .f32⟩
  | .hbm, ⟨16, _⟩ => ⟨S4x9x2, .f32⟩
  | .hbm, ⟨17, _⟩ => ⟨S2x4x9, .f32⟩
  | .hbm, ⟨18, _⟩ => ⟨S72, .f32⟩
  | .hbm, ⟨19, _⟩ => ⟨S96x108, .f32⟩
  | .hbm, ⟨20, _⟩ => ⟨S108, .f32⟩
  | .hbm, ⟨21, _⟩ => ⟨S1x108, .f32⟩
  | .hbm, ⟨22, _⟩ => ⟨S1x96, .f32⟩
  | .hbm, ⟨23, _⟩ => ⟨S9x96, .f32⟩
  | .hbm, ⟨24, _⟩ => ⟨S1x96, .f32⟩
  | .hbm, ⟨25, _⟩ => ⟨S96x96, .f32⟩
  | .hbm, ⟨26, _⟩ => ⟨S1x96, .f32⟩
  | .hbm, ⟨27, _⟩ => ⟨S1x96, .f32⟩
  | .hbm, ⟨28, _⟩ => ⟨S2x224x224x96, .f32⟩
  | .local _ .vmem, ⟨0, _⟩ => ⟨S1x16x224x96, .f32⟩
  | .local _ .vmem, ⟨1, _⟩ => ⟨S1x16x224x96, .f32⟩
  | .local _ .vmem, ⟨2, _⟩ => ⟨S1x16x224x96, .f32⟩
  | .local _ .vmem, ⟨3, _⟩ => ⟨S1x16x224x96, .f32⟩
  | .local _ .vmem, ⟨4, _⟩ => ⟨S1x16x224x96, .f32⟩
  | .local _ .vmem, ⟨5, _⟩ => ⟨S1x16x224x96, .f32⟩
  | .local _ .vmem, ⟨6, _⟩ => ⟨S96x96, .f32⟩
  | .local _ .vmem, ⟨7, _⟩ => ⟨S1x96, .f32⟩
  | .local _ .vmem, ⟨8, _⟩ => ⟨S9x96, .f32⟩
  | .local _ .vmem, ⟨9, _⟩ => ⟨S1x96, .f32⟩
  | .local _ .vmem, ⟨10, _⟩ => ⟨S96x96, .f32⟩
  | .local _ .vmem, ⟨11, _⟩ => ⟨S1x96, .f32⟩
  | .local _ .vmem, ⟨12, _⟩ => ⟨S96x108, .f32⟩
  | .local _ .vmem, ⟨13, _⟩ => ⟨S1x108, .f32⟩
  | .local _ .vmem, ⟨14, _⟩ => ⟨S96x96, .f32⟩
  | .local _ .vmem, ⟨15, _⟩ => ⟨S1x96, .f32⟩
  | .local _ .vmem, ⟨16, _⟩ => ⟨S1x16x224x96, .f32⟩
  | .local _ .vmem, ⟨17, _⟩ => ⟨S1x16x224x96, .f32⟩
  | _, _ => ⟨S2x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![2, 14], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c13_i32 : BitVec 32 := 13#32
  let v1 : BitVec 32 := Scalar.minsi v0 c13_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x224x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x224x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x224x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S96x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S96x108 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x108 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S96x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x16x224x96 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S2x224x224x96 : Shape := ⟨4, ![2, 224, 224, 96]⟩
abbrev S96x96 : Shape := ⟨2, ![96, 96]⟩
abbrev S96 : Shape := ⟨1, ![96]⟩
abbrev S3x3x1x96 : Shape := ⟨4, ![3, 3, 1, 96]⟩
abbrev S1x1x96x96 : Shape := ⟨4, ![1, 1, 96, 96]⟩
abbrev S96x72 : Shape := ⟨2, ![96, 72]⟩
abbrev S72 : Shape := ⟨1, ![72]⟩
abbrev S96x36 : Shape := ⟨2, ![96, 36]⟩
abbrev S36 : Shape := ⟨1, ![36]⟩
abbrev S1x1x1x96 : Shape := ⟨4, ![1, 1, 1, 96]⟩
abbrev S_ : Shape := ⟨0, ![]⟩
abbrev S2x226x226x96 : Shape := ⟨4, ![2, 226, 226, 96]⟩
abbrev S2x224x224x72 : Shape := ⟨4, ![2, 224, 224, 72]⟩
abbrev S1x1x1x72 : Shape := ⟨4, ![1, 1, 1, 72]⟩
abbrev S2x224x224x4x9x2 : Shape := ⟨6, ![2, 224, 224, 4, 9, 2]⟩
abbrev S2x224x224x36 : Shape := ⟨4, ![2, 224, 224, 36]⟩
abbrev S1x1x1x36 : Shape := ⟨4, ![1, 1, 1, 36]⟩
abbrev S2x224x224x4x9 : Shape := ⟨5, ![2, 224, 224, 4, 9]⟩
abbrev S2x224x224x4 : Shape := ⟨4, ![2, 224, 224, 4]⟩
abbrev S2x224x224x4x1 : Shape := ⟨5, ![2, 224, 224, 4, 1]⟩
abbrev S3 : Shape := ⟨1, ![3]⟩
abbrev S3x3 : Shape := ⟨2, ![3, 3]⟩
abbrev S3x3x1 : Shape := ⟨3, ![3, 3, 1]⟩
abbrev S3x3x2 : Shape := ⟨3, ![3, 3, 2]⟩
abbrev S1x1x1x1x9x2 : Shape := ⟨6, ![1, 1, 1, 1, 9, 2]⟩
abbrev S224 : Shape := ⟨1, ![224]⟩
abbrev S1x224x1x1x1 : Shape := ⟨5, ![1, 224, 1, 1, 1]⟩
abbrev S1x1x224x1x1 : Shape := ⟨5, ![1, 1, 224, 1, 1]⟩
abbrev S2x224x224x4x9x1 : Shape := ⟨6, ![2, 224, 224, 4, 9, 1]⟩
abbrev S2x224x224x4x24 : Shape := ⟨5, ![2, 224, 224, 4, 24]⟩
abbrev S2 : Shape := ⟨1, ![2]⟩
abbrev S2x1x1x1x1 : Shape := ⟨5, ![2, 1, 1, 1, 1]⟩
abbrev S4 : Shape := ⟨1, ![4]⟩
abbrev S1x1x1x4x1 : Shape := ⟨5, ![1, 1, 1, 4, 1]⟩
abbrev S2x224x224x4x9x4 : Shape := ⟨6, ![2, 224, 224, 4, 9, 4]⟩
abbrev S2x224x224x4x9x24 : Shape := ⟨6, ![2, 224, 224, 4, 9, 24]⟩

abbrev nBuf : Space → Nat
  | .hbm => 422
  | .vmem => 0
  | .smem => 0
  | _ => 0

abbrev hbmTy0_0 (i : Nat) : BufTy := match i % 128 with
  | 0 => ⟨S2x224x224x96, .f32⟩
  | 1 => ⟨S96x96, .f32⟩
  | 2 => ⟨S96, .f32⟩
  | 3 => ⟨S96x96, .f32⟩
  | 4 => ⟨S96, .f32⟩
  | 5 => ⟨S3x3x1x96, .f32⟩
  | 6 => ⟨S96, .f32⟩
  | 7 => ⟨S1x1x96x96, .f32⟩
  | 8 => ⟨S96, .f32⟩
  | 9 => ⟨S96x72, .f32⟩
  | 10 => ⟨S72, .f32⟩
  | 11 => ⟨S96x36, .f32⟩
  | 12 => ⟨S36, .f32⟩
  | 13 => ⟨S2x224x224x96, .f32⟩
  | 14 => ⟨S1x1x1x96, .f32⟩
  | 15 => ⟨S2x224x224x96, .f32⟩
  | 16 => ⟨S2x224x224x96, .f32⟩
  | 17 => ⟨S_, .i32⟩
  | 18 => ⟨S_, .f32⟩
  | 19 => ⟨S2x226x226x96, .f32⟩
  | 20 => ⟨S_, .f32⟩
  | 21 => ⟨S2x224x224x96, .f32⟩
  | 22 => ⟨S2x224x224x96, .f32⟩
  | 23 => ⟨S1x1x1x96, .f32⟩
  | 24 => ⟨S96, .f32⟩
  | 25 => ⟨S1x1x1x96, .f32⟩
  | 26 => ⟨S2x224x224x96, .f32⟩
  | 27 => ⟨S2x224x224x96, .f32⟩
  | 28 => ⟨S2x224x224x96, .f32⟩
  | 29 => ⟨S2x224x224x96, .f32⟩
  | 30 => ⟨S1x1x1x96, .f32⟩
  | 31 => ⟨S96, .f32⟩
  | 32 => ⟨S1x1x1x96, .f32⟩
  | 33 => ⟨S2x224x224x96, .f32⟩
  | 34 => ⟨S2x224x224x96, .f32⟩
  | 35 => ⟨S2x224x224x96, .f32⟩
  | 36 => ⟨S2x224x224x96, .f32⟩
  | 37 => ⟨S1x1x1x96, .f32⟩
  | 38 => ⟨S96, .f32⟩
  | 39 => ⟨S1x1x1x96, .f32⟩
  | 40 => ⟨S2x224x224x96, .f32⟩
  | 41 => ⟨S2x224x224x96, .f32⟩
  | 42 => ⟨S2x224x224x96, .f32⟩
  | 43 => ⟨S2x224x224x96, .f32⟩
  | 44 => ⟨S1x1x1x96, .f32⟩
  | 45 => ⟨S96, .f32⟩
  | 46 => ⟨S1x1x1x96, .f32⟩
  | 47 => ⟨S2x224x224x96, .f32⟩
  | 48 => ⟨S2x224x224x96, .f32⟩
  | 49 => ⟨S2x224x224x96, .f32⟩
  | 50 => ⟨S2x224x224x96, .f32⟩
  | 51 => ⟨S1x1x1x96, .f32⟩
  | 52 => ⟨S96, .f32⟩
  | 53 => ⟨S1x1x1x96, .f32⟩
  | 54 => ⟨S2x224x224x96, .f32⟩
  | 55 => ⟨S2x224x224x96, .f32⟩
  | 56 => ⟨S2x224x224x96, .f32⟩
  | 57 => ⟨S2x224x224x96, .f32⟩
  | 58 => ⟨S1x1x1x96, .f32⟩
  | 59 => ⟨S96, .f32⟩
  | 60 => ⟨S1x1x1x96, .f32⟩
  | 61 => ⟨S2x224x224x96, .f32⟩
  | 62 => ⟨S2x224x224x96, .f32⟩
  | 63 => ⟨S2x224x224x96, .f32⟩
  | 64 => ⟨S2x224x224x96, .f32⟩
  | 65 => ⟨S1x1x1x96, .f32⟩
  | 66 => ⟨S96, .f32⟩
  | 67 => ⟨S1x1x1x96, .f32⟩
  | 68 => ⟨S2x224x224x96, .f32⟩
  | 69 => ⟨S2x224x224x96, .f32⟩
  | 70 => ⟨S2x224x224x96, .f32⟩
  | 71 => ⟨S2x224x224x96, .f32⟩
  | 72 => ⟨S1x1x1x96, .f32⟩
  | 73 => ⟨S96, .f32⟩
  | 74 => ⟨S1x1x1x96, .f32⟩
  | 75 => ⟨S2x224x224x96, .f32⟩
  | 76 => ⟨S2x224x224x96, .f32⟩
  | 77 => ⟨S2x224x224x96, .f32⟩
  | 78 => ⟨S2x224x224x96, .f32⟩
  | 79 => ⟨S1x1x1x96, .f32⟩
  | 80 => ⟨S96, .f32⟩
  | 81 => ⟨S1x1x1x96, .f32⟩
  | 82 => ⟨S2x224x224x96, .f32⟩
  | 83 => ⟨S2x224x224x96, .f32⟩
  | 84 => ⟨S2x224x224x96, .f32⟩
  | 85 => ⟨S1x1x1x96, .f32⟩
  | 86 => ⟨S2x224x224x96, .f32⟩
  | 87 => ⟨S2x224x224x96, .f32⟩
  | 88 => ⟨S2x224x224x96, .f32⟩
  | 89 => ⟨S2x224x224x96, .f32⟩
  | 90 => ⟨S_, .f32⟩
  | 91 => ⟨S2x224x224x96, .f32⟩
  | 92 => ⟨S2x224x224x96, .f32⟩
  | 93 => ⟨S_, .f32⟩
  | 94 => ⟨S2x224x224x96, .f32⟩
  | 95 => ⟨S2x224x224x96, .f32⟩
  | 96 => ⟨S2x224x224x96, .f32⟩
  | 97 => ⟨S96x96, .f32⟩
  | 98 => ⟨S2x224x224x96, .f32⟩
  | 99 => ⟨S1x1x1x96, .f32⟩
  | 100 => ⟨S2x224x224x96, .f32⟩
  | 101 => ⟨S2x224x224x96, .f32⟩
  | 102 => ⟨S2x224x224x72, .f32⟩
  | 103 => ⟨S1x1x1x72, .f32⟩
  | 104 => ⟨S2x224x224x72, .f32⟩
  | 105 => ⟨S2x224x224x72, .f32⟩
  | 106 => ⟨S2x224x224x4x9x2, .f32⟩
  | 107 => ⟨S_, .f32⟩
  | 108 => ⟨S2x224x224x4x9x2, .f32⟩
  | 109 => ⟨S2x224x224x4x9x2, .f32⟩
  | 110 => ⟨S2x224x224x36, .f32⟩
  | 111 => ⟨S1x1x1x36, .f32⟩
  | 112 => ⟨S2x224x224x36, .f32⟩
  | 113 => ⟨S2x224x224x36, .f32⟩
  | 114 => ⟨S2x224x224x4x9, .f32⟩
  | 115 => ⟨S_, .f32⟩
  | 116 => ⟨S2x224x224x4, .f32⟩
  | 117 => ⟨S_, .f32⟩
  | 118 => ⟨S2x224x224x4, .f32⟩
  | 119 => ⟨S2x224x224x4, .f32⟩
  | 120 => ⟨S2x224x224x4x1, .f32⟩
  | 121 => ⟨S2x224x224x4x9, .f32⟩
  | 122 => ⟨S2x224x224x4x9, .f32⟩
  | 123 => ⟨S2x224x224x4x9, .f32⟩
  | 124 => ⟨S_, .f32⟩
  | 125 => ⟨S2x224x224x4, .f32⟩
  | 126 => ⟨S2x224x224x4x1, .f32⟩
  | 127 => ⟨S2x224x224x4x9, .f32⟩
  | _ => ⟨S2x224x224x96, .f32⟩

abbrev hbmTy0_1 (i : Nat) : BufTy := match i % 128 with
  | 0 => ⟨S2x224x224x4x9, .f32⟩
  | 1 => ⟨S_, .f32⟩
  | 2 => ⟨S2x224x224x4x9, .i1⟩
  | 3 => ⟨S_, .f32⟩
  | 4 => ⟨S2x224x224x4x9, .f32⟩
  | 5 => ⟨S2x224x224x4x9, .f32⟩
  | 6 => ⟨S_, .f32⟩
  | 7 => ⟨S2x224x224x4x9, .f32⟩
  | 8 => ⟨S2x224x224x4x9, .i1⟩
  | 9 => ⟨S_, .f32⟩
  | 10 => ⟨S2x224x224x4x9, .f32⟩
  | 11 => ⟨S2x224x224x4x9, .f32⟩
  | 12 => ⟨S_, .f32⟩
  | 13 => ⟨S2x224x224x4x9, .f32⟩
  | 14 => ⟨S2x224x224x4x9, .i1⟩
  | 15 => ⟨S_, .f32⟩
  | 16 => ⟨S2x224x224x4x9, .f32⟩
  | 17 => ⟨S2x224x224x4x9, .f32⟩
  | 18 => ⟨S3, .f32⟩
  | 19 => ⟨S_, .f32⟩
  | 20 => ⟨S3, .f32⟩
  | 21 => ⟨S3, .f32⟩
  | 22 => ⟨S3x3, .f32⟩
  | 23 => ⟨S3x3, .f32⟩
  | 24 => ⟨S3x3x1, .f32⟩
  | 25 => ⟨S3x3x1, .f32⟩
  | 26 => ⟨S3x3x2, .f32⟩
  | 27 => ⟨S1x1x1x1x9x2, .f32⟩
  | 28 => ⟨S224, .f32⟩
  | 29 => ⟨S1x224x1x1x1, .f32⟩
  | 30 => ⟨S224, .f32⟩
  | 31 => ⟨S1x1x224x1x1, .f32⟩
  | 32 => ⟨S2x224x224x4x9x2, .f32⟩
  | 33 => ⟨S2x224x224x4x9x2, .f32⟩
  | 34 => ⟨S2x224x224x4x9x1, .f32⟩
  | 35 => ⟨S2x224x224x4x9, .f32⟩
  | 36 => ⟨S2x224x224x4x9, .f32⟩
  | 37 => ⟨S2x224x224x4x9, .f32⟩
  | 38 => ⟨S_, .f32⟩
  | 39 => ⟨S_, .i32⟩
  | 40 => ⟨S_, .f32⟩
  | 41 => ⟨S2x224x224x4x9, .f32⟩
  | 42 => ⟨S2x224x224x4x9, .f32⟩
  | 43 => ⟨S_, .f32⟩
  | 44 => ⟨S2x224x224x4x9, .f32⟩
  | 45 => ⟨S2x224x224x4x9, .f32⟩
  | 46 => ⟨S2x224x224x4x9x1, .f32⟩
  | 47 => ⟨S2x224x224x4x9, .f32⟩
  | 48 => ⟨S2x224x224x4x9, .f32⟩
  | 49 => ⟨S2x224x224x4x9, .f32⟩
  | 50 => ⟨S_, .f32⟩
  | 51 => ⟨S_, .i32⟩
  | 52 => ⟨S_, .f32⟩
  | 53 => ⟨S2x224x224x4x9, .f32⟩
  | 54 => ⟨S2x224x224x4x9, .f32⟩
  | 55 => ⟨S_, .f32⟩
  | 56 => ⟨S2x224x224x4x9, .f32⟩
  | 57 => ⟨S2x224x224x4x9, .f32⟩
  | 58 => ⟨S2x224x224x4x24, .f32⟩
  | 59 => ⟨S2, .i32⟩
  | 60 => ⟨S2x1x1x1x1, .i32⟩
  | 61 => ⟨S4, .i32⟩
  | 62 => ⟨S1x1x1x4x1, .i32⟩
  | 63 => ⟨S2x224x224x4x9, .f32⟩
  | 64 => ⟨S2x224x224x4x9, .i32⟩
  | 65 => ⟨S_, .i32⟩
  | 66 => ⟨S_, .i32⟩
  | 67 => ⟨S_, .i32⟩
  | 68 => ⟨S2x224x224x4x9, .i32⟩
  | 69 => ⟨S2x224x224x4x9, .i32⟩
  | 70 => ⟨S_, .i32⟩
  | 71 => ⟨S2x224x224x4x9, .i32⟩
  | 72 => ⟨S2x224x224x4x9, .i32⟩
  | 73 => ⟨S2x224x224x4x9, .f32⟩
  | 74 => ⟨S2x224x224x4x9, .i32⟩
  | 75 => ⟨S_, .i32⟩
  | 76 => ⟨S_, .i32⟩
  | 77 => ⟨S_, .i32⟩
  | 78 => ⟨S2x224x224x4x9, .i32⟩
  | 79 => ⟨S2x224x224x4x9, .i32⟩
  | 80 => ⟨S_, .i32⟩
  | 81 => ⟨S2x224x224x4x9, .i32⟩
  | 82 => ⟨S2x224x224x4x9, .i32⟩
  | 83 => ⟨S_, .i32⟩
  | 84 => ⟨S2x224x224x4x9, .i32⟩
  | 85 => ⟨S2x224x224x4x9, .i32⟩
  | 86 => ⟨S_, .i32⟩
  | 87 => ⟨S_, .i32⟩
  | 88 => ⟨S_, .i32⟩
  | 89 => ⟨S2x224x224x4x9, .i32⟩
  | 90 => ⟨S2x224x224x4x9, .i32⟩
  | 91 => ⟨S_, .i32⟩
  | 92 => ⟨S2x224x224x4x9, .i32⟩
  | 93 => ⟨S2x224x224x4x9, .i32⟩
  | 94 => ⟨S_, .i32⟩
  | 95 => ⟨S2x224x224x4x9, .i32⟩
  | 96 => ⟨S2x224x224x4x9, .i32⟩
  | 97 => ⟨S_, .i32⟩
  | 98 => ⟨S_, .i32⟩
  | 99 => ⟨S_, .i32⟩
  | 100 => ⟨S2x224x224x4x9, .i32⟩
  | 101 => ⟨S2x224x224x4x9, .i32⟩
  | 102 => ⟨S_, .i32⟩
  | 103 => ⟨S2x224x224x4x9, .i32⟩
  | 104 => ⟨S2x224x224x4x9, .i32⟩
  | 105 => ⟨S2x224x224x4x9, .f32⟩
  | 106 => ⟨S2x224x224x4x9, .f32⟩
  | 107 => ⟨S2x224x224x4x9, .f32⟩
  | 108 => ⟨S2x224x224x4x9, .f32⟩
  | 109 => ⟨S_, .i32⟩
  | 110 => ⟨S2x1x1x1x1, .i32⟩
  | 111 => ⟨S2x1x1x1x1, .i1⟩
  | 112 => ⟨S_, .i32⟩
  | 113 => ⟨S2x1x1x1x1, .i32⟩
  | 114 => ⟨S2x1x1x1x1, .i32⟩
  | 115 => ⟨S2x1x1x1x1, .i32⟩
  | 116 => ⟨S_, .i32⟩
  | 117 => ⟨S2x224x224x4x9, .i32⟩
  | 118 => ⟨S2x224x224x4x9, .i1⟩
  | 119 => ⟨S_, .i32⟩
  | 120 => ⟨S2x224x224x4x9, .i32⟩
  | 121 => ⟨S2x224x224x4x9, .i32⟩
  | 122 => ⟨S2x224x224x4x9, .i32⟩
  | 123 => ⟨S_, .i32⟩
  | 124 => ⟨S2x224x224x4x9, .i32⟩
  | 125 => ⟨S2x224x224x4x9, .i1⟩
  | 126 => ⟨S_, .i32⟩
  | 127 => ⟨S2x224x224x4x9, .i32⟩
  | _ => ⟨S2x224x224x96, .f32⟩

abbrev hbmTy0_2 (i : Nat) : BufTy := match i % 128 with
  | 0 => ⟨S2x224x224x4x9, .i32⟩
  | 1 => ⟨S2x224x224x4x9, .i32⟩
  | 2 => ⟨S_, .i32⟩
  | 3 => ⟨S1x1x1x4x1, .i32⟩
  | 4 => ⟨S1x1x1x4x1, .i1⟩
  | 5 => ⟨S_, .i32⟩
  | 6 => ⟨S1x1x1x4x1, .i32⟩
  | 7 => ⟨S1x1x1x4x1, .i32⟩
  | 8 => ⟨S1x1x1x4x1, .i32⟩
  | 9 => ⟨S2x224x224x4x9, .i32⟩
  | 10 => ⟨S2x224x224x4x9, .i32⟩
  | 11 => ⟨S2x224x224x4x9x1, .i32⟩
  | 12 => ⟨S2x224x224x4x9x1, .i32⟩
  | 13 => ⟨S2x224x224x4x9x1, .i32⟩
  | 14 => ⟨S2x224x224x4x9x1, .i32⟩
  | 15 => ⟨S2x224x224x4x9x4, .i32⟩
  | 16 => ⟨S2x224x224x4x9x24, .f32⟩
  | 17 => ⟨S_, .i32⟩
  | 18 => ⟨S2x1x1x1x1, .i32⟩
  | 19 => ⟨S2x1x1x1x1, .i1⟩
  | 20 => ⟨S_, .i32⟩
  | 21 => ⟨S2x1x1x1x1, .i32⟩
  | 22 => ⟨S2x1x1x1x1, .i32⟩
  | 23 => ⟨S2x1x1x1x1, .i32⟩
  | 24 => ⟨S_, .i32⟩
  | 25 => ⟨S2x224x224x4x9, .i32⟩
  | 26 => ⟨S2x224x224x4x9, .i1⟩
  | 27 => ⟨S_, .i32⟩
  | 28 => ⟨S2x224x224x4x9, .i32⟩
  | 29 => ⟨S2x224x224x4x9, .i32⟩
  | 30 => ⟨S2x224x224x4x9, .i32⟩
  | 31 => ⟨S_, .i32⟩
  | 32 => ⟨S2x224x224x4x9, .i32⟩
  | 33 => ⟨S2x224x224x4x9, .i1⟩
  | 34 => ⟨S_, .i32⟩
  | 35 => ⟨S2x224x224x4x9, .i32⟩
  | 36 => ⟨S2x224x224x4x9, .i32⟩
  | 37 => ⟨S2x224x224x4x9, .i32⟩
  | 38 => ⟨S_, .i32⟩
  | 39 => ⟨S1x1x1x4x1, .i32⟩
  | 40 => ⟨S1x1x1x4x1, .i1⟩
  | 41 => ⟨S_, .i32⟩
  | 42 => ⟨S1x1x1x4x1, .i32⟩
  | 43 => ⟨S1x1x1x4x1, .i32⟩
  | 44 => ⟨S1x1x1x4x1, .i32⟩
  | 45 => ⟨S2x224x224x4x9, .i32⟩
  | 46 => ⟨S2x224x224x4x9, .i32⟩
  | 47 => ⟨S2x224x224x4x9x1, .i32⟩
  | 48 => ⟨S2x224x224x4x9x1, .i32⟩
  | 49 => ⟨S2x224x224x4x9x1, .i32⟩
  | 50 => ⟨S2x224x224x4x9x1, .i32⟩
  | 51 => ⟨S2x224x224x4x9x4, .i32⟩
  | 52 => ⟨S2x224x224x4x9x24, .f32⟩
  | 53 => ⟨S_, .i32⟩
  | 54 => ⟨S2x1x1x1x1, .i32⟩
  | 55 => ⟨S2x1x1x1x1, .i1⟩
  | 56 => ⟨S_, .i32⟩
  | 57 => ⟨S2x1x1x1x1, .i32⟩
  | 58 => ⟨S2x1x1x1x1, .i32⟩
  | 59 => ⟨S2x1x1x1x1, .i32⟩
  | 60 => ⟨S_, .i32⟩
  | 61 => ⟨S2x224x224x4x9, .i32⟩
  | 62 => ⟨S2x224x224x4x9, .i1⟩
  | 63 => ⟨S_, .i32⟩
  | 64 => ⟨S2x224x224x4x9, .i32⟩
  | 65 => ⟨S2x224x224x4x9, .i32⟩
  | 66 => ⟨S2x224x224x4x9, .i32⟩
  | 67 => ⟨S_, .i32⟩
  | 68 => ⟨S2x224x224x4x9, .i32⟩
  | 69 => ⟨S2x224x224x4x9, .i1⟩
  | 70 => ⟨S_, .i32⟩
  | 71 => ⟨S2x224x224x4x9, .i32⟩
  | 72 => ⟨S2x224x224x4x9, .i32⟩
  | 73 => ⟨S2x224x224x4x9, .i32⟩
  | 74 => ⟨S_, .i32⟩
  | 75 => ⟨S1x1x1x4x1, .i32⟩
  | 76 => ⟨S1x1x1x4x1, .i1⟩
  | 77 => ⟨S_, .i32⟩
  | 78 => ⟨S1x1x1x4x1, .i32⟩
  | 79 => ⟨S1x1x1x4x1, .i32⟩
  | 80 => ⟨S1x1x1x4x1, .i32⟩
  | 81 => ⟨S2x224x224x4x9, .i32⟩
  | 82 => ⟨S2x224x224x4x9, .i32⟩
  | 83 => ⟨S2x224x224x4x9x1, .i32⟩
  | 84 => ⟨S2x224x224x4x9x1, .i32⟩
  | 85 => ⟨S2x224x224x4x9x1, .i32⟩
  | 86 => ⟨S2x224x224x4x9x1, .i32⟩
  | 87 => ⟨S2x224x224x4x9x4, .i32⟩
  | 88 => ⟨S2x224x224x4x9x24, .f32⟩
  | 89 => ⟨S_, .i32⟩
  | 90 => ⟨S2x1x1x1x1, .i32⟩
  | 91 => ⟨S2x1x1x1x1, .i1⟩
  | 92 => ⟨S_, .i32⟩
  | 93 => ⟨S2x1x1x1x1, .i32⟩
  | 94 => ⟨S2x1x1x1x1, .i32⟩
  | 95 => ⟨S2x1x1x1x1, .i32⟩
  | 96 => ⟨S_, .i32⟩
  | 97 => ⟨S2x224x224x4x9, .i32⟩
  | 98 => ⟨S2x224x224x4x9, .i1⟩
  | 99 => ⟨S_, .i32⟩
  | 100 => ⟨S2x224x224x4x9, .i32⟩
  | 101 => ⟨S2x224x224x4x9, .i32⟩
  | 102 => ⟨S2x224x224x4x9, .i32⟩
  | 103 => ⟨S_, .i32⟩
  | 104 => ⟨S2x224x224x4x9, .i32⟩
  | 105 => ⟨S2x224x224x4x9, .i1⟩
  | 106 => ⟨S_, .i32⟩
  | 107 => ⟨S2x224x224x4x9, .i32⟩
  | 108 => ⟨S2x224x224x4x9, .i32⟩
  | 109 => ⟨S2x224x224x4x9, .i32⟩
  | 110 => ⟨S_, .i32⟩
  | 111 => ⟨S1x1x1x4x1, .i32⟩
  | 112 => ⟨S1x1x1x4x1, .i1⟩
  | 113 => ⟨S_, .i32⟩
  | 114 => ⟨S1x1x1x4x1, .i32⟩
  | 115 => ⟨S1x1x1x4x1, .i32⟩
  | 116 => ⟨S1x1x1x4x1, .i32⟩
  | 117 => ⟨S2x224x224x4x9, .i32⟩
  | 118 => ⟨S2x224x224x4x9, .i32⟩
  | 119 => ⟨S2x224x224x4x9x1, .i32⟩
  | 120 => ⟨S2x224x224x4x9x1, .i32⟩
  | 121 => ⟨S2x224x224x4x9x1, .i32⟩
  | 122 => ⟨S2x224x224x4x9x1, .i32⟩
  | 123 => ⟨S2x224x224x4x9x4, .i32⟩
  | 124 => ⟨S2x224x224x4x9x24, .f32⟩
  | 125 => ⟨S_, .f32⟩
  | 126 => ⟨S2x224x224x4x9, .f32⟩
  | 127 => ⟨S2x224x224x4x9, .f32⟩
  | _ => ⟨S2x224x224x96, .f32⟩

abbrev hbmTy0_3 (i : Nat) : BufTy := match i % 128 with
  | 0 => ⟨S_, .f32⟩
  | 1 => ⟨S2x224x224x4x9, .f32⟩
  | 2 => ⟨S2x224x224x4x9, .f32⟩
  | 3 => ⟨S2x224x224x4x9, .f32⟩
  | 4 => ⟨S_, .f32⟩
  | 5 => ⟨S2x224x224x4x9, .f32⟩
  | 6 => ⟨S2x224x224x4x9, .f32⟩
  | 7 => ⟨S2x224x224x4x9, .f32⟩
  | 8 => ⟨S_, .f32⟩
  | 9 => ⟨S2x224x224x4x9, .f32⟩
  | 10 => ⟨S2x224x224x4x9, .f32⟩
  | 11 => ⟨S2x224x224x4x9, .f32⟩
  | 12 => ⟨S2x224x224x4x9, .f32⟩
  | 13 => ⟨S2x224x224x4x9x1, .f32⟩
  | 14 => ⟨S2x224x224x4x9x24, .f32⟩
  | 15 => ⟨S2x224x224x4x9x24, .f32⟩
  | 16 => ⟨S2x224x224x4x9x1, .f32⟩
  | 17 => ⟨S2x224x224x4x9x24, .f32⟩
  | 18 => ⟨S2x224x224x4x9x24, .f32⟩
  | 19 => ⟨S2x224x224x4x9x24, .f32⟩
  | 20 => ⟨S2x224x224x4x9x1, .f32⟩
  | 21 => ⟨S2x224x224x4x9x24, .f32⟩
  | 22 => ⟨S2x224x224x4x9x24, .f32⟩
  | 23 => ⟨S2x224x224x4x9x24, .f32⟩
  | 24 => ⟨S2x224x224x4x9x1, .f32⟩
  | 25 => ⟨S2x224x224x4x9x24, .f32⟩
  | 26 => ⟨S2x224x224x4x9x24, .f32⟩
  | 27 => ⟨S2x224x224x4x9x24, .f32⟩
  | 28 => ⟨S2x224x224x4x9x1, .f32⟩
  | 29 => ⟨S2x224x224x4x9x24, .f32⟩
  | 30 => ⟨S2x224x224x4x9x24, .f32⟩
  | 31 => ⟨S_, .f32⟩
  | 32 => ⟨S2x224x224x4x24, .f32⟩
  | 33 => ⟨S2x224x224x96, .f32⟩
  | 34 => ⟨S2x224x224x96, .f32⟩
  | 35 => ⟨S1x1x1x96, .f32⟩
  | 36 => ⟨S2x224x224x96, .f32⟩
  | 37 => ⟨S2x224x224x96, .f32⟩
  | _ => ⟨S2x224x224x96, .f32⟩

abbrev hbmTy (i : Nat) : BufTy := match i / 128 with
  | 0 => hbmTy0_0 i
  | 1 => hbmTy0_1 i
  | 2 => hbmTy0_2 i
  | 3 => hbmTy0_3 i
  | _ => ⟨S2x224x224x96, .f32⟩

abbrev bufTy : (tb : Table) → Fin (tcTables nBuf tb) → BufTy
  | .hbm, ⟨i, _⟩ => hbmTy i
  | _, _ => ⟨S2x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_0 : Ref sig .tc := ⟨.hbm, 90, rfl⟩
abbrev main_v74 : Ref sig .tc := ⟨.hbm, 91, rfl⟩
abbrev main_v75 : Ref sig .tc := ⟨.hbm, 92, rfl⟩
abbrev main_cst_1 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_2 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_3 : Ref sig .tc := ⟨.hbm, 115, rfl⟩
abbrev main_v96 : Ref sig .tc := ⟨.hbm, 116, rfl⟩
abbrev main_cst_4 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_5 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_6 : Ref sig .tc := ⟨.hbm, 129, rfl⟩
abbrev main_call1_v0 : Ref sig .tc := ⟨.hbm, 130, rfl⟩
abbrev main_call1_v1 : Ref sig .tc := ⟨.hbm, 131, rfl⟩
abbrev main_call1_call0_v0 : Ref sig .tc := ⟨.hbm, 132, rfl⟩
abbrev main_call1_v2 : Ref sig .tc := ⟨.hbm, 133, rfl⟩
abbrev main_call1_cst : Ref sig .tc := ⟨.hbm, 134, rfl⟩
abbrev main_call1_v3 : Ref sig .tc := ⟨.hbm, 135, rfl⟩
abbrev main_call1_v4 : Ref sig .tc := ⟨.hbm, 136, rfl⟩
abbrev main_call1_cst_0 : Ref sig .tc := ⟨.hbm, 137, rfl⟩
abbrev main_call1_call1_v0 : Ref sig .tc := ⟨.hbm, 138, rfl⟩
abbrev main_call1_v5 : Ref sig .tc := ⟨.hbm, 139, rfl⟩
abbrev main_call1_cst_1 : Ref sig .tc := ⟨.hbm, 140, rfl⟩
abbrev main_call1_v6 : Ref sig .tc := ⟨.hbm, 141, rfl⟩
abbrev main_call1_v7 : Ref sig .tc := ⟨.hbm, 142, rfl⟩
abbrev main_call1_cst_2 : Ref sig .tc := ⟨.hbm, 143, rfl⟩
abbrev main_call1_call2_v0 : Ref sig .tc := ⟨.hbm, 144, rfl⟩
abbrev main_v107 : Ref sig .tc := ⟨.hbm, 145, rfl⟩
abbrev main_v108 : Ref sig .tc := ⟨.hbm, 146, rfl⟩
abbrev main_cst_7 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_8 : Ref sig .tc := ⟨.hbm, 166, rfl⟩
abbrev main_c_9 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_10 : Ref sig .tc := ⟨.hbm, 178, rfl⟩
abbrev main_c_11 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_12 : Ref sig .tc := ⟨.hbm, 193, rfl⟩
abbrev main_c_13 : Ref sig .tc := ⟨.hbm, 194, rfl⟩
abbrev main_call4_v0 : Ref sig .tc := ⟨.hbm, 195, rfl⟩
abbrev main_call4_v1 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_c_14 : Ref sig .tc := ⟨.hbm, 203, rfl⟩
abbrev main_c_15 : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_v143 : Ref sig .tc := ⟨.hbm, 210, rfl⟩
abbrev main_c_16 : Ref sig .tc := ⟨.hbm, 211, rfl⟩
abbrev main_v144 : Ref sig .tc := ⟨.hbm, 212, rfl⟩
abbrev main_v145 : Ref sig .tc := ⟨.hbm, 213, rfl⟩
abbrev main_c_17 : Ref sig .tc := ⟨.hbm, 214, rfl⟩
abbrev main_c_18 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_v146 : Ref sig .tc := ⟨.hbm, 221, rfl⟩
abbrev main_c_19 : Ref sig .tc := ⟨.hbm, 222, rfl⟩
abbrev main_v147 : Ref sig .tc := ⟨.hbm, 223, rfl⟩
abbrev main_v148 : Ref sig .tc := ⟨.hbm, 224, rfl⟩
abbrev main_c_20 : Ref sig .tc := ⟨.hbm, 225, rfl⟩
abbrev main_c_21 : Ref sig .tc := ⟨.hbm, 226, rfl⟩
abbrev main_call7_v0 : Ref sig .tc := ⟨.hbm, 227, rfl⟩
abbrev main_call7_v1 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_c_22 : Ref sig .tc := ⟨.hbm, 237, rfl⟩
abbrev main_v154 : Ref sig .tc := ⟨.hbm, 238, rfl⟩
abbrev main_v155 : Ref sig .tc := ⟨.hbm, 239, rfl⟩
abbrev main_c_23 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_c_24 : Ref sig .tc := ⟨.hbm, 244, rfl⟩
abbrev main_v159 : Ref sig .tc := ⟨.hbm, 245, rfl⟩
abbrev main_v160 : Ref sig .tc := ⟨.hbm, 246, rfl⟩
abbrev main_c_25 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_c_26 : Ref sig .tc := ⟨.hbm, 251, rfl⟩
abbrev main_v164 : Ref sig .tc := ⟨.hbm, 252, rfl⟩
abbrev main_v165 : Ref sig .tc := ⟨.hbm, 253, rfl⟩
abbrev main_c_27 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_c_28 : Ref sig .tc := ⟨.hbm, 258, rfl⟩
abbrev main_v169 : Ref sig .tc := ⟨.hbm, 259, rfl⟩
abbrev main_v170 : Ref sig .tc := ⟨.hbm, 260, rfl⟩
abbrev main_c_29 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_c_30 : Ref sig .tc := ⟨.hbm, 273, rfl⟩
abbrev main_v182 : Ref sig .tc := ⟨.hbm, 274, rfl⟩
abbrev main_v183 : Ref sig .tc := ⟨.hbm, 275, rfl⟩
abbrev main_c_31 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_c_32 : Ref sig .tc := ⟨.hbm, 280, rfl⟩
abbrev main_v187 : Ref sig .tc := ⟨.hbm, 281, rfl⟩
abbrev main_v188 : Ref sig .tc := ⟨.hbm, 282, rfl⟩
abbrev main_c_33 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_c_34 : Ref sig .tc := ⟨.hbm, 287, rfl⟩
abbrev main_v192 : Ref sig .tc := ⟨.hbm, 288, rfl⟩
abbrev main_v193 : Ref sig .tc := ⟨.hbm, 289, rfl⟩
abbrev main_c_35 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_c_36 : Ref sig .tc := ⟨.hbm, 294, rfl⟩
abbrev main_v197 : Ref sig .tc := ⟨.hbm, 295, rfl⟩
abbrev main_v198 : Ref sig .tc := ⟨.hbm, 296, rfl⟩
abbrev main_c_37 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_c_38 : Ref sig .tc := ⟨.hbm, 309, rfl⟩
abbrev main_v210 : Ref sig .tc := ⟨.hbm, 310, rfl⟩
abbrev main_v211 : Ref sig .tc := ⟨.hbm, 311, rfl⟩
abbrev main_c_39 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_c_40 : Ref sig .tc := ⟨.hbm, 316, rfl⟩
abbrev main_v215 : Ref sig .tc := ⟨.hbm, 317, rfl⟩
abbrev main_v216 : Ref sig .tc := ⟨.hbm, 318, rfl⟩
abbrev main_c_41 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_c_42 : Ref sig .tc := ⟨.hbm, 323, rfl⟩
abbrev main_v220 : Ref sig .tc := ⟨.hbm, 324, rfl⟩
abbrev main_v221 : Ref sig .tc := ⟨.hbm, 325, rfl⟩
abbrev main_c_43 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_c_44 : Ref sig .tc := ⟨.hbm, 330, rfl⟩
abbrev main_v225 : Ref sig .tc := ⟨.hbm, 331, rfl⟩
abbrev main_v226 : Ref sig .tc := ⟨.hbm, 332, rfl⟩
abbrev main_c_45 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_c_46 : Ref sig .tc := ⟨.hbm, 345, rfl⟩
abbrev main_v238 : Ref sig .tc := ⟨.hbm, 346, rfl⟩
abbrev main_v239 : Ref sig .tc := ⟨.hbm, 347, rfl⟩
abbrev main_c_47 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_c_48 : Ref sig .tc := ⟨.hbm, 352, rfl⟩
abbrev main_v243 : Ref sig .tc := ⟨.hbm, 353, rfl⟩
abbrev main_v244 : Ref sig .tc := ⟨.hbm, 354, rfl⟩
abbrev main_c_49 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_c_50 : Ref sig .tc := ⟨.hbm, 359, rfl⟩
abbrev main_v248 : Ref sig .tc := ⟨.hbm, 360, rfl⟩
abbrev main_v249 : Ref sig .tc := ⟨.hbm, 361, rfl⟩
abbrev main_c_51 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_c_52 : Ref sig .tc := ⟨.hbm, 366, rfl⟩
abbrev main_v253 : Ref sig .tc := ⟨.hbm, 367, rfl⟩
abbrev main_v254 : Ref sig .tc := ⟨.hbm, 368, rfl⟩
abbrev main_c_53 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_v262 : Ref sig .tc := ⟨.hbm, 377, rfl⟩
abbrev main_v263 : Ref sig .tc := ⟨.hbm, 378, rfl⟩
abbrev main_v264 : Ref sig .tc := ⟨.hbm, 379, rfl⟩
abbrev main_v265 : Ref sig .tc := ⟨.hbm, 380, rfl⟩
abbrev main_cst_54 : Ref sig .tc := ⟨.hbm, 381, rfl⟩
abbrev main_v266 : Ref sig .tc := ⟨.hbm, 382, rfl⟩
abbrev main_v267 : Ref sig .tc := ⟨.hbm, 383, rfl⟩
abbrev main_cst_55 : Ref sig .tc := ⟨.hbm, 384, rfl⟩
abbrev main_v268 : Ref sig .tc := ⟨.hbm, 385, rfl⟩
abbrev main_v269 : Ref sig .tc := ⟨.hbm, 386, rfl⟩
abbrev main_v270 : Ref sig .tc := ⟨.hbm, 387, rfl⟩
abbrev main_cst_56 : Ref sig .tc := ⟨.hbm, 388, rfl⟩
abbrev main_v271 : Ref sig .tc := ⟨.hbm, 389, rfl⟩
abbrev main_v272 : Ref sig .tc := ⟨.hbm, 390, rfl⟩
abbrev main_v273 : Ref sig .tc := ⟨.hbm, 391, rfl⟩
abbrev main_cst_57 : Ref sig .tc := ⟨.hbm, 392, rfl⟩
abbrev main_v274 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_cst_58 : Ref sig .tc := ⟨.hbm, 415, rfl⟩
abbrev main_v296 : Ref sig .tc := ⟨.hbm, 416, rfl⟩
abbrev main_v297 : Ref sig .tc := ⟨.hbm, 417, rfl⟩
abbrev main_v298 : Ref sig .tc := ⟨.hbm, 418, rfl⟩
abbrev main_v299 : Ref sig .tc := ⟨.hbm, 419, rfl⟩
abbrev main_v300 : Ref sig .tc := ⟨.hbm, 420, rfl⟩
abbrev main_v301 : Ref sig .tc := ⟨.hbm, 421, rfl⟩

abbrev nD : Nat := 1
abbrev τ : Topo := Topo.v7x

variable {F : FTy → Type} [FloatOps F]
-- ==== Proof.Hat.lean ====
module

public import Idealize.ShloMosaic.Lib.Pointwise

@[expose] public section

/-! Interpolation with hat weights: the arithmetic that turns a sum over a 5 by 5 window of neighbours into one
    bilinear sample.  Every weight is a nonnegative real, the sampled values are any extended reals. -/

noncomputable section

namespace Dcn

/-- The hat function of radius one, on the reals. -/
def hat (x : ℝ) : ℝ := max (1 - |x|) 0

/-- Neighbour number `n` of a window that starts two places before the image, clamped into the 224 image places. -/
def cl (n : ℕ) : ℕ := min (n - 2) 223

/-- The sampling position along one axis, clamped into the image: place `h` displaced by `q`. -/
def pos (q : ℝ) (h : ℕ) : ℝ := min 223 (max 0 (q + h))

/-- The image place at or below the sampling position. -/
def lo (q : ℝ) (h : ℕ) : ℕ := ⌊pos q h⌋₊

/-- The image place after it, clamped into the image. -/
def up (q : ℝ) (h : ℕ) : ℕ := min (lo q h + 1) 223

/-- The fractional part of the sampling position. -/
def fr (q : ℝ) (h : ℕ) : ℝ := pos q h - lo q h

/-- A hat is nowhere negative. -/
theorem hat_nonneg (x : ℝ) : 0 ≤ hat x := le_max_right _ _

/-- A sampling position is not before the image. -/
theorem pos_nonneg (q : ℝ) (h : ℕ) : 0 ≤ pos q h := le_min (by norm_num) (le_max_left _ _)

/-- A sampling position is not past the image. -/
theorem pos_le (q : ℝ) (h : ℕ) : pos q h ≤ 223 := min_le_left _ _

/-- The place below a sampling position is in the image. -/
theorem lo_le (q : ℝ) (h : ℕ) : lo q h ≤ 223 := by
  have h1 : ⌊pos q h⌋₊ ≤ ⌊(223 : ℝ)⌋₊ := Nat.floor_le_floor (pos_le q h)
  have h2 : ⌊(223 : ℝ)⌋₊ = 223 := by exact_mod_cast Nat.floor_natCast (R := ℝ) 223
  unfold lo; omega

/-- The place after it is in the image. -/
theorem up_le (q : ℝ) (h : ℕ) : up q h ≤ 223 := min_le_right _ _

/-- A clamped neighbour is in the image. -/
theorem cl_le (n : ℕ) : cl n ≤ 223 := min_le_right _ _

/-- The fractional part is not negative. -/
theorem fr_nonneg (q : ℝ) (h : ℕ) : 0 ≤ fr q h := sub_nonneg.2 (Nat.floor_le (pos_nonneg q h))

/-- The fractional part is at most one. -/
theorem fr_le (q : ℝ) (h : ℕ) : fr q h ≤ 1 := by
  have := Nat.lt_floor_add_one (pos q h)
  unfold fr lo; linarith

/-- A nonnegative real factor distributes over a sum of extended reals. -/
theorem coe_mul_add {a : ℝ} (ha : 0 ≤ a) (x y : EReal) : (a : EReal) * (x + y) = a * x + a * y :=
  EReal.left_distrib_of_nonneg_of_ne_top (EReal.coe_nonneg.2 ha) (EReal.coe_ne_top a) x y

/-- A sum of two nonnegative real factors distributes over an extended real. -/
theorem coe_add_mul {a b : ℝ} (ha : 0 ≤ a) (hb : 0 ≤ b) (x : EReal) :
    ((a + b : ℝ) : EReal) * x = a * x + b * x := by
  rw [EReal.coe_add]
  exact EReal.right_distrib_of_nonneg (EReal.coe_nonneg.2 ha) (EReal.coe_nonneg.2 hb)

/-- A nonnegative real factor distributes over a finite sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, coe_mul_add ha, ih]

/-- A finite sum of nonnegative real factors distributes over an extended real. -/
theorem sum_coe_mul {ι : Type} (s : Finset ι) (t : ι → ℝ) (ht : ∀ i, 0 ≤ t i) (x : EReal) :
    (∑ i ∈ s, (t i : EReal)) * x = ∑ i ∈ s, (t i : EReal) * x := by
  classical
  induction s using Finset.induction_on with
  | empty => simp
  | insert i s hi ih =>
    rw [Finset.sum_insert hi, Finset.sum_insert hi,
      EReal.right_distrib_of_nonneg (EReal.coe_nonneg.2 (ht i))
        (Finset.sum_nonneg fun j _ => EReal.coe_nonneg.2 (ht j)), ih]

/-- For a displacement `q = n + s` with whole part `n` from -2 to 2 and fraction `s`, only the two neighbours around it
    have a nonzero hat weight, `1 - s` and `s`. -/
theorem hat_at {s : ℝ} (h0 : 0 ≤ s) (h1 : s < 1) (n : ℤ) :
    hat (s + n) = if n = 0 then 1 - s else if n = -1 then s else 0 := by
  unfold hat
  rcases lt_trichotomy n (-1) with hn | hn | hn
  · rw [if_neg (by omega), if_neg (by omega)]
    have : (n : ℝ) ≤ -2 := by exact_mod_cast (by omega : n ≤ -2)
    rw [abs_of_nonpos (by linarith)]; exact max_eq_right (by linarith)
  · subst hn; rw [if_neg (by omega), if_pos rfl]; push_cast
    rw [abs_of_nonpos (by linarith)]; rw [max_eq_left (by linarith)]; ring
  · by_cases hz : n = 0
    · subst hz; rw [if_pos rfl]; push_cast; rw [add_zero, abs_of_nonneg h0, max_eq_left (by linarith)]
    · rw [if_neg hz, if_neg (by omega)]
      have : (1 : ℝ) ≤ n := by exact_mod_cast (by omega : 1 ≤ n)
      rw [abs_of_nonneg (by linarith)]; exact max_eq_right (by linarith)

/-- The clamped position of a displacement split into whole part and fraction. -/
theorem pos_split {s : ℝ} (h0 : 0 ≤ s) (h1 : s < 1) (n : ℤ) (h : ℕ) :
    (0 ≤ n + h ∧ n + h < 223 ∧ lo (s + n) h = (n + h).toNat ∧ up (s + n) h = (n + h).toNat + 1 ∧ fr (s + n) h = s)
    ∨ (n + h < 0 ∧ lo (s + n) h = 0 ∧ fr (s + n) h = 0)
    ∨ (223 ≤ n + h ∧ lo (s + n) h = 223 ∧ up (s + n) h = 223 ∧ fr (s + n) h = 0) := by
  rcases lt_or_ge (n + (h : ℤ)) 0 with hn | hn
  · right; left
    have hr : (n : ℝ) + h ≤ -1 := by exact_mod_cast (by omega : n + (h : ℤ) ≤ -1)
    have hp : pos (s + n) h = 0 := by
      unfold pos; rw [max_eq_left (by linarith), min_eq_right (by norm_num)]
    have hl : lo (s + n) h = 0 := by unfold lo; rw [hp]; exact Nat.floor_zero
    exact ⟨hn, hl, by unfold fr; rw [hp, hl]; simp⟩
  rcases lt_or_ge (n + (h : ℤ)) 223 with hm | hm
  · left
    obtain ⟨k, hk⟩ := Int.eq_ofNat_of_zero_le hn
    have hkr : (n : ℝ) + h = k := by exact_mod_cast hk
    have hk2 : (k : ℝ) ≤ 222 := by exact_mod_cast (by omega : k ≤ 222)
    have hk0 : (0 : ℝ) ≤ k := Nat.cast_nonneg k
    have hp : pos (s + n) h = s + k := by
      unfold pos; rw [add_assoc, hkr, max_eq_right (by linarith), min_eq_right (by linarith)]
    have hl : lo (s + n) h = k := by
      unfold lo; rw [hp]
      exact (Nat.floor_eq_iff (by linarith)).2 ⟨by linarith, by linarith⟩
    have ht : (n + (h : ℤ)).toNat = k := by omega
    refine ⟨hn, hm, by rw [hl, ht], ?_, ?_⟩
    · unfold up; rw [hl, ht]; omega
    · unfold fr; rw [hp, hl]; ring
  · right; right
    have hr : (223 : ℝ) ≤ n + h := by exact_mod_cast hm
    have hp : pos (s + n) h = 223 := by
      unfold pos; rw [max_eq_right (by linarith), min_eq_left (by linarith)]
    have hl : lo (s + n) h = 223 := by
      unfold lo; rw [hp]; exact_mod_cast Nat.floor_natCast (R := ℝ) 223
    exact ⟨hm, hl, by unfold up; rw [hl]; rfl, by unfold fr; rw [hp, hl]; norm_num⟩

/-- LINEAR INTERPOLATION BY HATS.  For a displacement of at most two places, the five clamped neighbours weighed by the
    hat function give the linear interpolation at the clamped position. -/
theorem hat_interp (f : ℕ → EReal) (h : ℕ) (hh : h ≤ 223) (q : ℝ) (hq : |q| ≤ 2) :
    ∑ d : Fin 5, (hat (q - ((d : ℕ) - 2 : ℝ)) : EReal) * f (cl (h + d))
      = ((1 - fr q h : ℝ) : EReal) * f (lo q h) + (fr q h : EReal) * f (up q h) := by
  obtain ⟨hq1, hq2⟩ := abs_le.1 hq
  obtain ⟨n, s, hs0, hs1, rfl⟩ : ∃ (n : ℤ) (s : ℝ), 0 ≤ s ∧ s < 1 ∧ q = s + n :=
    ⟨⌊q⌋, Int.fract q, Int.fract_nonneg q, Int.fract_lt_one q, (Int.fract_add_floor q).symm⟩
  have hn1 : -2 ≤ n := by
    have : (-3 : ℝ) < n := by linarith
    have : (-3 : ℤ) < n := by exact_mod_cast this
    omega
  have hn2 : n ≤ 2 := by
    have : (n : ℝ) ≤ 2 := by linarith
    exact_mod_cast this
  have hd : ∀ d : Fin 5, hat (s + n - ((d : ℕ) - 2 : ℝ))
      = if n - d + 2 = 0 then 1 - s else if n - d + 2 = -1 then s else 0 := fun d => by
    rw [← hat_at hs0 hs1 (n - d + 2)]; congr 1; push_cast; ring
  have hs1' : 0 ≤ 1 - s := by linarith
  have hone : ∀ x : EReal, ((1 - s : ℝ) : EReal) * x + (s : EReal) * x = x := fun x => by
    rw [← coe_add_mul hs1' hs0]; simp
  have hsz : n = 2 → s = 0 := fun h2 => by subst h2; push_cast at hq2; linarith
  have key : ∑ d : Fin 5, (hat (s + n - ((d : ℕ) - 2 : ℝ)) : EReal) * f (cl (h + d))
      = ((1 - s : ℝ) : EReal) * f (cl (n + h + 2).toNat) + (s : EReal) * f (cl (n + h + 3).toNat) := by
    simp only [hd, Fin.sum_univ_five]
    have hc : n = -2 ∨ n = -1 ∨ n = 0 ∨ n = 1 ∨ n = 2 := by omega
    have e1 : ∀ a b : ℕ, a = b → f (cl a) = f (cl b) := fun a b e => by rw [e]
    rcases hc with rfl | rfl | rfl | rfl | rfl
    · simp
      exact congrArg₂ _ (congrArg _ (e1 _ _ (by omega))) (congrArg _ (e1 _ _ (by omega)))
    · simp
      exact congrArg₂ _ (congrArg _ (e1 _ _ (by omega))) (congrArg _ (e1 _ _ (by omega)))
    · simp
      exact congrArg₂ _ (congrArg _ (e1 _ _ (by omega))) (congrArg _ (e1 _ _ (by omega)))
    · simp
      exact congrArg₂ _ (congrArg _ (e1 _ _ (by omega))) (congrArg _ (e1 _ _ (by omega)))
    · rw [hsz rfl]; simp
      exact e1 _ _ (by omega)
  rw [key]
  rcases pos_split hs0 hs1 n h with ⟨c1, c2, e1, e2, e3⟩ | ⟨c1, e1, e3⟩ | ⟨c1, e1, e2, e3⟩
  · rw [e1, e2, e3]
    have a1 : cl (n + h + 2).toNat = (n + (h : ℤ)).toNat := by unfold cl; omega
    have a2 : cl (n + h + 3).toNat = (n + (h : ℤ)).toNat + 1 := by unfold cl; omega
    rw [a1, a2]
  · rw [e1, e3]
    have a1 : cl (n + h + 2).toNat = 0 := by unfold cl; omega
    have a2 : cl (n + h + 3).toNat = 0 := by unfold cl; omega
    rw [a1, a2, hone]; simp
  · rw [e1, e2, e3]
    have a1 : cl (n + h + 2).toNat = 223 := by unfold cl; omega
    have a2 : cl (n + h + 3).toNat = 223 := by unfold cl; omega
    rw [a1, a2, hone]; simp

/-- BILINEAR INTERPOLATION BY HATS, weighed by a nonnegative real `a`: the 25 clamped neighbours weighed by products of
    hats give the bilinear sample from the four corner places. -/
theorem hat_bilinear (F : ℕ → ℕ → EReal) (h w : ℕ) (hh : h ≤ 223) (hw : w ≤ 223) (p q a : ℝ) (hp : |p| ≤ 2)
    (hq : |q| ≤ 2) (ha : 0 ≤ a) :
    ∑ dy : Fin 5, ∑ dx : Fin 5, ((a * hat (p - ((dy : ℕ) - 2 : ℝ)) * hat (q - ((dx : ℕ) - 2 : ℝ)) : ℝ) : EReal)
        * F (cl (h + dy)) (cl (w + dx))
      = (F (lo p h) (lo q w) * (((1 - fr p h) * (1 - fr q w) : ℝ) : EReal)
          + F (lo p h) (up q w) * (((1 - fr p h) * fr q w : ℝ) : EReal)
          + F (up p h) (lo q w) * ((fr p h * (1 - fr q w) : ℝ) : EReal)
          + F (up p h) (up q w) * ((fr p h * fr q w : ℝ) : EReal)) * (a : EReal) := by
  have hu0 := fr_nonneg p h
  have hv0 := fr_nonneg q w
  have hu1 : 0 ≤ 1 - fr p h := sub_nonneg.2 (fr_le p h)
  have hv1 : 0 ≤ 1 - fr q w := sub_nonneg.2 (fr_le q w)
  have inner : ∀ dy : Fin 5, ∑ dx : Fin 5,
      ((a * hat (p - ((dy : ℕ) - 2 : ℝ)) * hat (q - ((dx : ℕ) - 2 : ℝ)) : ℝ) : EReal) * F (cl (h + dy)) (cl (w + dx))
      = (a : EReal) * ((hat (p - ((dy : ℕ) - 2 : ℝ)) : EReal)
          * (((1 - fr q w : ℝ) : EReal) * F (cl (h + dy)) (lo q w) + (fr q w : EReal) * F (cl (h + dy)) (up q w))) :=
    fun dy => by
    rw [← hat_interp (F (cl (h + dy))) w hw q hq, coe_mul_sum _ (hat_nonneg _), coe_mul_sum _ ha]
    exact Finset.sum_congr rfl fun dx _ => by rw [EReal.coe_mul, EReal.coe_mul]; simp only [mul_assoc]
  simp only [inner]
  rw [← coe_mul_sum _ ha,
    hat_interp (fun i => ((1 - fr q w : ℝ) : EReal) * F i (lo q w) + (fr q w : EReal) * F i (up q w)) h hh p hp,
    mul_comm, coe_mul_add hu1, coe_mul_add hu0, EReal.coe_mul, EReal.coe_mul, EReal.coe_mul, EReal.coe_mul, add_assoc,
    add_assoc]
  congr 1
  rw [← add_assoc]
  ac_nf

end Dcn

end
-- ==== Proof.Soft.lean ====
module

public import Idealize.ShloMosaic.Lib.Pointwise

@[expose] public section

/-! The softmax over one group of nine logits: whatever real number is subtracted from the logits first, the quotient is
    the same real number. -/

noncomputable section

namespace Dcn

open Idealize.ShloMosaic

/-- The largest of a nonempty list of real numbers is a real number. -/
theorem fold_max_real {ι : Type} (s : Finset ι) (hs : s.Nonempty) (f : ι → ℝ) :
    ∃ m : ℝ, s.fold max (⊥ : EReal) (fun i => (f i : EReal)) = m := by
  classical
  induction hs using Finset.Nonempty.cons_induction with
  | singleton a => exact ⟨f a, by simp⟩
  | cons a s h hs ih =>
    obtain ⟨m, hm⟩ := ih
    exact ⟨max (f a) m, by rw [Finset.fold_cons, hm]; exact (EReal.coe_strictMono.monotone.map_max).symm⟩

/-- The softmax weight of logit `a` among the logits `l k`, `k` in `s`, as a real number. -/
def softw {ι : Type} (s : Finset ι) (l : ι → ℝ) (a : ℝ) : ℝ := Real.exp a / ∑ k ∈ s, Real.exp (l k)

/-- A softmax weight is not negative. -/
theorem softw_nonneg {ι : Type} (s : Finset ι) (l : ι → ℝ) (a : ℝ) : 0 ≤ softw s l a :=
  div_nonneg (Real.exp_pos a).le (Finset.sum_nonneg fun k _ => (Real.exp_pos _).le)

/-- A finite sum of reals, read as extended reals. -/
theorem coe_sum {ι : Type} (s : Finset ι) (f : ι → ℝ) : ∑ k ∈ s, (f k : EReal) = ((∑ k ∈ s, f k : ℝ) : EReal) := by
  classical
  induction s using Finset.induction_on with
  | empty => simp
  | insert i s hi ih => rw [Finset.sum_insert hi, Finset.sum_insert hi, ih, EReal.coe_add]

/-- Subtracting any real `m` from every logit first leaves the softmax weight unchanged. -/
theorem softmax_shift {ι : Type} (s : Finset ι) (hs : s.Nonempty) (l : ι → ℝ) (a m : ℝ) :
    Ideal.div (Ideal.exp ((a : EReal) - m)) (∑ k ∈ s, Ideal.exp ((l k : EReal) - m)) = (softw s l a : EReal) := by
  have h1 : ∀ x : ℝ, Ideal.exp ((x : EReal) - m) = ((Real.exp x * Real.exp (-m) : ℝ) : EReal) := fun x => by
    rw [← Real.exp_add, ← sub_eq_add_neg, ← EReal.coe_sub]; rfl
  simp only [h1]
  rw [coe_sum, ← Finset.sum_mul]
  have hS : 0 < ∑ k ∈ s, Real.exp (l k) := Finset.sum_pos (fun k _ => Real.exp_pos _) hs
  have hm := Real.exp_pos (-m)
  rw [Ideal.div_coe (mul_pos hS hm).ne', ← EReal.coe_mul]
  congr 1
  unfold softw
  field_simp

/-- A sum over 36 columns that keeps one group of nine is the sum over that group. -/
theorem group_sum (F : Fin 36 → EReal) (g : Fin 4) :
    ∑ j : Fin 36, F j * (if (j : ℕ) / 9 = g then (1 : EReal) else 0)
      = ∑ k : Fin 9, F ⟨g * 9 + k, by omega⟩ := by
  rw [Fin.sum_univ_tiles 4 9 rfl, Finset.sum_eq_single g]
  · refine Finset.sum_congr rfl fun k _ => ?_
    rw [if_pos (by simp only []; omega), mul_one]
  · intro b _ hb
    refine Finset.sum_eq_zero fun k _ => ?_
    rw [if_neg (fun h => hb (Fin.ext (by simp only [] at h; omega))), mul_zero]
  · intro h; exact absurd (Finset.mem_univ _) h

end Dcn

end
-- ==== Proof.Spec.lean ====
module

public import proofs.«01_k».proof.Proof.Hat
public import proofs.«01_k».proof.Proof.Soft

@[expose] public section

/-! # The intermediate arrays, as functions of a pixel

`P n w c` is one image of the batch (row, column, channel). Each function below is one intermediate array of
the computation at the pixel `(n, w)`. -/

noncomputable section

namespace Dcn
open Idealize.ShloMosaic

/-- The image with one row and one column of zeros around it, at row `n` and column `w` of the larger image. -/
def zpad (P : ℕ → ℕ → Fin 96 → EReal) (n w : ℕ) (c : Fin 96) : EReal :=
  if 1 ≤ n ∧ n < 225 ∧ 1 ≤ w ∧ w < 225 then P (n - 1) (w - 1) c else 0

/-- The depthwise convolution with three by three taps `D` and bias `d`, at pixel `(n, w)`. -/
def dwc (P : ℕ → ℕ → Fin 96 → EReal) (D : Fin 9 → Fin 96 → EReal) (d : Fin 96 → EReal) (n w : ℕ)
    (c : Fin 96) : EReal :=
  zpad P n w c * D 0 c + zpad P n (w + 1) c * D 1 c + zpad P n (w + 2) c * D 2 c
    + zpad P (n + 1) w c * D 3 c + zpad P (n + 1) (w + 1) c * D 4 c + zpad P (n + 1) (w + 2) c * D 5 c
    + zpad P (n + 2) w c * D 6 c + zpad P (n + 2) (w + 1) c * D 7 c + zpad P (n + 2) (w + 2) c * D 8 c + d c

/-- The features the offsets and the weights are read from: the convolved image times its own logistic, through
    the pointwise weights `W` and bias `b`. -/
def feat (H : ℕ → ℕ → Fin 96 → EReal) (W : Fin 96 → Fin 96 → EReal) (b : Fin 96 → EReal) (n w : ℕ)
    (c : Fin 96) : EReal :=
  (∑ k, H n w k * Ideal.logistic (H n w k) * W k c) + b c

/-- An affine map of the channels of `X`, at pixel `(n, w)`. -/
def lin {α : Type} (X : ℕ → ℕ → Fin 96 → EReal) (W : Fin 96 → α → EReal) (b : α → EReal) (n w : ℕ)
    (c : α) : EReal :=
  (∑ k, X n w k * W k c) + b c

/-- The bilinear sample of `F` at offsets `p`, `q` from the point `(h, w)`: the four neighbouring values with their
    weights, the coordinates clamped to the image. -/
def bil (F : ℕ → ℕ → EReal) (p q : ℝ) (h w : ℕ) : EReal :=
  F (lo p h) (lo q w) * (((1 - fr p h) * (1 - fr q w) : ℝ) : EReal)
    + F (lo p h) (up q w) * (((1 - fr p h) * fr q w : ℝ) : EReal)
    + F (up p h) (lo q w) * ((fr p h * (1 - fr q w) : ℝ) : EReal)
    + F (up p h) (up q w) * ((fr p h * fr q w : ℝ) : EReal)

/-- The kernel's sum over the five by five neighbourhood, each value times the sum over the 36 columns of weight and
    hats selected for one group, is the group's nine weighted bilinear samples. -/
theorem comb (g : Fin 4) (A S : Fin 36 → EReal) (Hy Hx : Fin 5 → Fin 36 → EReal) (V : Fin 5 → Fin 5 → EReal)
    (F : ℕ → ℕ → EReal) (h w : ℕ) (hh : h ≤ 223) (hw : w ≤ 223) (a p q : Fin 9 → ℝ) (ha : ∀ k, 0 ≤ a k)
    (hp : ∀ k, |p k| ≤ 2) (hq : ∀ k, |q k| ≤ 2)
    (hS : ∀ j : Fin 36, S j = if (j : ℕ) / 9 = g then 1 else 0)
    (hA : ∀ k : Fin 9, A ⟨g * 9 + k, by omega⟩ = (a k : EReal))
    (hY : ∀ (d : Fin 5) (k : Fin 9), Hy d ⟨g * 9 + k, by omega⟩ = (hat (p k - ((d : ℕ) - 2 : ℝ)) : EReal))
    (hX : ∀ (d : Fin 5) (k : Fin 9), Hx d ⟨g * 9 + k, by omega⟩ = (hat (q k - ((d : ℕ) - 2 : ℝ)) : EReal))
    (hV : ∀ dy dx : Fin 5, V dy dx = F (cl (h + dy)) (cl (w + dx))) :
    ∑ dy : Fin 5, ∑ dx : Fin 5, (∑ j : Fin 36, A j * Hy dy j * Hx dx j * S j) * V dy dx
      = ∑ k : Fin 9, bil F (p k) (q k) h w * (a k : EReal) := by
  have e : ∀ dy dx : Fin 5, (∑ j : Fin 36, A j * Hy dy j * Hx dx j * S j) * V dy dx
      = ∑ k : Fin 9, ((a k * hat (p k - ((dy : ℕ) - 2 : ℝ)) * hat (q k - ((dx : ℕ) - 2 : ℝ)) : ℝ) : EReal)
          * F (cl (h + dy)) (cl (w + dx)) := by
    intro dy dx
    simp only [hS]
    rw [group_sum (fun j => A j * Hy dy j * Hx dx j) g]
    simp only [hA, hY, hX, hV]
    simp only [← EReal.coe_mul]
    exact sum_coe_mul _ _ (fun k => mul_nonneg (mul_nonneg (ha k) (hat_nonneg _)) (hat_nonneg _)) _
  simp only [e]
  rw [Finset.sum_congr rfl fun dy _ => Finset.sum_comm, Finset.sum_comm]
  exact Finset.sum_congr rfl fun k _ => hat_bilinear F h w hh hw (p k) (q k) (a k) (hp k) (hq k) (ha k)

/-- The offset scale: one tenth, rounded to the format. -/
def sc : ℝ := 13421773 / 134217728

/-- The row coordinate of sample point `k` of the three by three grid, moved by the scaled offset `o`. -/
def ptY (o : ℝ) (k : Fin 9) : ℝ := o * sc + (((k : ℤ) / 3 - 1 : ℤ) : ℝ)

/-- The column coordinate of sample point `k` of the three by three grid, moved by the scaled offset `o`. -/
def ptX (o : ℝ) (k : Fin 9) : ℝ := o * sc + (((k : ℤ) % 3 - 1 : ℤ) : ℝ)

/-- The group of 24 channels a channel belongs to. -/
def grp (c : Fin 96) : Fin 4 := ⟨c / 24, by omega⟩

/-- The deformed sample at pixel `(n, w)`, channel `c`: the nine bilinear samples of `X` around the pixel, moved by the
    group's offsets `oy`, `ox` and weighted with the softmax of the group's logits `l`. -/
def samp (X : ℕ → ℕ → Fin 96 → EReal) (oy ox l : Fin 4 → Fin 9 → ℝ) (n w : ℕ) (c : Fin 96) : EReal :=
  ∑ k : Fin 9, bil (fun h' w' => X h' w' c) (ptY (oy (grp c) k) k) (ptX (ox (grp c) k) k) n w
    * (softw Finset.univ (l (grp c)) (l (grp c) k) : EReal)

/-- Scaled offsets of size at most one move a sample point by at most two. -/
theorem pt_le (o : ℝ) (ho : |o * sc| ≤ 1) (i : ℤ) (h0 : -1 ≤ i) (h1 : i ≤ 1) : |o * sc + (i : ℝ)| ≤ 2 := by
  have h0' : (-1 : ℝ) ≤ i := by exact_mod_cast h0
  have h1' : (i : ℝ) ≤ 1 := by exact_mod_cast h1
  have := abs_le.mp ho
  exact abs_le.mpr ⟨by linarith [this.1], by linarith [this.2]⟩

/-- A tap moves a row by at most two. -/
theorem ptY_le (o : ℝ) (ho : |o * sc| ≤ 1) (k : Fin 9) : |ptY o k| ≤ 2 := pt_le o ho _ (by omega) (by omega)

/-- A tap moves a column by at most two. -/
theorem ptX_le (o : ℝ) (ho : |o * sc| ≤ 1) (k : Fin 9) : |ptX o k| ≤ 2 := pt_le o ho _ (by omega) (by omega)

/-! ## The same, from the argument arrays -/

/-- Image `b` of the batch, with zeros outside the image. -/
def img (x : FVec Ideal ⟨4, ![2, 224, 224, 96]⟩ .f32) (b : Fin 2) (n w : ℕ) (c : Fin 96) : EReal :=
  if h : n < 224 ∧ w < 224 then x (ix4 b ⟨n, h.1⟩ ⟨w, h.2⟩ c) else 0

/-- The argument arrays, under one name. -/
structure Args where
  x : FVec Ideal ⟨4, ![2, 224, 224, 96]⟩ .f32
  Wi : FVec Ideal ⟨2, ![96, 96]⟩ .f32
  bi : FVec Ideal ⟨1, ![96]⟩ .f32
  Wo : FVec Ideal ⟨2, ![96, 96]⟩ .f32
  bo : FVec Ideal ⟨1, ![96]⟩ .f32
  D : FVec Ideal ⟨4, ![3, 3, 1, 96]⟩ .f32
  d : FVec Ideal ⟨1, ![96]⟩ .f32
  Wp : FVec Ideal ⟨4, ![1, 1, 96, 96]⟩ .f32
  bp : FVec Ideal ⟨1, ![96]⟩ .f32
  Wf : FVec Ideal ⟨2, ![96, 72]⟩ .f32
  bf : FVec Ideal ⟨1, ![72]⟩ .f32
  Wk : FVec Ideal ⟨2, ![96, 36]⟩ .f32
  bk : FVec Ideal ⟨1, ![36]⟩ .f32

namespace Args
variable (A : Args) (b : Fin 2)

/-- The projected image. -/
def proj : ℕ → ℕ → Fin 96 → EReal := lin (img A.x b) (fun k c => A.Wi (ix2 k c)) fun c => A.bi (ix1 c)

/-- The convolved image. -/
def conv : ℕ → ℕ → Fin 96 → EReal :=
  dwc (img A.x b) (fun t k => A.D (ix4 ⟨t / 3, by omega⟩ ⟨t % 3, by omega⟩ 0 k)) fun k => A.d (ix1 k)

/-- The features. -/
def feats : ℕ → ℕ → Fin 96 → EReal := feat (A.conv b) (fun k c => A.Wp (ix4 0 0 k c)) fun c => A.bp (ix1 c)

/-- The unscaled offsets: column `18 g + 2 k` the row offset of point `k` of group `g`, the next column its column offset. -/
def offs : ℕ → ℕ → Fin 72 → EReal := lin (A.feats b) (fun k j => A.Wf (ix2 k j)) fun j => A.bf (ix1 j)

/-- The logits: column `9 g + k` for point `k` of group `g`. -/
def logits : ℕ → ℕ → Fin 36 → EReal := lin (A.feats b) (fun k j => A.Wk (ix2 k j)) fun j => A.bk (ix1 j)

/-- The row offsets as real numbers. -/
def oy (n w : ℕ) (g : Fin 4) (k : Fin 9) : ℝ := (A.offs b n w ⟨g * 18 + k * 2, by omega⟩).toReal
/-- The column offsets as real numbers. -/
def ox (n w : ℕ) (g : Fin 4) (k : Fin 9) : ℝ := (A.offs b n w ⟨g * 18 + k * 2 + 1, by omega⟩).toReal
/-- The logits as real numbers. -/
def lg (n w : ℕ) (g : Fin 4) (k : Fin 9) : ℝ := (A.logits b n w ⟨g * 9 + k, by omega⟩).toReal

/-- THE RESULT: the deformed samples of the projected image through the output projection. -/
def out (n w : ℕ) (c : Fin 96) : EReal :=
  ∑ k : Fin 96, samp (A.proj b) (A.oy b n w) (A.ox b n w) (A.lg b n w) n w k * A.Wo (ix2 k c) + A.bo (ix1 c)

/-- The precondition in numbers: every offset is real and its scaled size is at most one; every logit is real. -/
structure Good (A : Args) : Prop where
  off : ∀ (b : Fin 2) (n w : Fin 224) (j : Fin 72), A.offs b n w j = ((A.offs b n w j).toReal : EReal)
  small : ∀ (b : Fin 2) (n w : Fin 224) (j : Fin 72), |(A.offs b n w j).toReal * sc| ≤ 1
  log : ∀ (b : Fin 2) (n w : Fin 224) (j : Fin 36), A.logits b n w j = ((A.logits b n w j).toReal : EReal)

end Args

end Dcn

end
-- ==== Proof.Words.lean ====
module

public import proofs.«01_k».proof.Proof.Spec

@[expose] public section

/-! The constants and the integer words of the two programs, read as numbers. -/

noncomputable section

open Idealize.ShloMosaic Idealize.ShloMosaic.TcCoe Idealize.SL.Sem

namespace Dcn

/-- Zero, as the programs write it. -/
theorem zero_word : Ideal.ofBits .f32 0x00000000#32 = (0 : EReal) := by simp [Ideal.ofBits, Ideal.ieee]

/-- Minus infinity, as the programs write it. -/
theorem bot_word : Ideal.ofBits .f32 0xFF800000#32 = (⊥ : EReal) := by simp [Ideal.ofBits, Ideal.ieee]

/-- A converted word is the number it holds. -/
theorem word_val (x y : BitVec 32) (h : x = y) :
    FloatOps.sitofp (F := Ideal) FTy.f32 x = ((y.toInt : ℝ) : EReal) := by rw [h]; rfl

/-- A converted truth value is one or zero. -/
theorem bool_val (x : BitVec 32) (q : Prop) [Decidable q] (h : x = if q then 1#32 else 0#32) :
    FloatOps.sitofp (F := Ideal) FTy.f32 x = if q then (1 : EReal) else 0 := by
  refine (word_val _ _ h).trans ?_
  split_ifs
  · rw [show (1#32 : BitVec 32).toInt = 1 from by decide]; norm_num
  · rw [show (0#32 : BitVec 32).toInt = 0 from by decide]; norm_num

/-- The offset scale, as the programs write it. -/
theorem sc_word : Ideal.ofBits .f32 0x3DCCCCCD#32 = (sc : EReal) := by
  simp [Ideal.ofBits, Ideal.ieee, sc]; rw [← EReal.coe_mul]; norm_num

/-- Minus one, as the programs write it. -/
theorem neg_one_word : Ideal.ofBits .f32 0xBF800000#32 = ((-1 : ℝ) : EReal) := by
  simp [Ideal.ofBits, Ideal.ieee]; rw [← EReal.coe_mul]; norm_num

/-- A real position between 0 and 223, rounded down, converted to a word and clamped to 0 … 223: its integer part. -/
theorem floor_word (r : ℝ) (h0 : 0 ≤ r) (h1 : r ≤ 223) :
    IntOp.minsi 223#32 (IntOp.maxsi 0#32 (FloatOps.fptosi (F := Ideal) (φ := .f32) 32 (Ideal.liftRound Int.floor (r : EReal))))
      = BitVec.ofNat 32 ⌊r⌋₊ := by
  have hn : ⌊r⌋₊ < 224 := by
    have : ⌊r⌋₊ < 223 + 1 := Nat.floor_lt' (by norm_num) |>.2 (by push_cast; linarith)
    omega
  have hz : ⌊r⌋ = (⌊r⌋₊ : ℤ) := (Int.natCast_floor_eq_floor h0).symm
  have e : FloatOps.fptosi (F := Ideal) (φ := .f32) 32 (Ideal.liftRound Int.floor (r : EReal)) = BitVec.ofNat 32 ⌊r⌋₊ := by
    rw [Ideal.liftRound_coe]
    show BitVec.ofInt 32 (Ideal.toIntClamped _ _ _) = _
    rw [Ideal.toIntClamped_coe, hz]
    rw [if_pos (by positivity), Int.floor_intCast, min_eq_right (by norm_num; omega), max_eq_right (by norm_num)]
    exact BitVec.ofInt_natCast _ _
  rw [e]
  exact (by decide +kernel : ∀ n : Fin 224, IntOp.minsi 223#32 (IntOp.maxsi 0#32 (BitVec.ofNat 32 n)) = BitVec.ofNat 32 n) ⟨_, hn⟩

/-- The next place, clamped to 0 … 223. -/
theorem next_word (n : ℕ) (hn : n ≤ 223) :
    IntOp.minsi 223#32 (IntOp.maxsi 0#32 (IntOp.addi (BitVec.ofNat 32 n) 1#32)) = BitVec.ofNat 32 (min (n + 1) 223) :=
  (by decide +kernel : ∀ n : Fin 224, IntOp.minsi 223#32 (IntOp.maxsi 0#32 (IntOp.addi (BitVec.ofNat 32 n) 1#32))
    = BitVec.ofNat 32 (min (n + 1) 223)) ⟨n, by omega⟩

/-- A word below 224, converted to a number. -/
theorem nat_val (n : ℕ) (hn : n < 2147483648) : FloatOps.sitofp (F := Ideal) FTy.f32 (BitVec.ofNat 32 n) = ((n : ℝ) : EReal) := by
  show (((BitVec.ofNat 32 n).toInt : ℝ) : EReal) = _
  have : (BitVec.ofNat 32 n).toInt = n := by
    rw [BitVec.toInt_eq_toNat_of_lt] <;> rw [BitVec.toNat_ofNat] <;> omega
  rw [this]; norm_num

end Dcn

end
-- ==== Proof.KProj.lean ====
module

public import proofs.«01_k».proof.Proof.Gen.KernelIdeal.Skeleton
public import Idealize.ShloMosaic.Lib.Pointwise
public import proofs.«01_k».proof.Proof.Spec

@[expose] public section

set_option maxRecDepth 16384

/-! What the kernel body computes from the three row blocks of the image before any arithmetic on the offsets: the
    stack of 20 rows, the projected rows with clamped edges, and the zero-padded rows of the convolution.

    `P n w c` stands for the image of one batch entry, row `n`, column `w`, channel `c`. -/

noncomputable section

open Idealize.ShloMosaic Idealize.ShloMosaic.TcCoe Idealize.SL.Sem

namespace Dcn.Kernel
open Cert.KernelIdeal Cert.KernelIdeal.Gen

/-- The three blocks hold the rows of the image around row block `a`: its 16 rows, the two rows before (if any) and the
    two rows after (if any). -/
structure Rows (P : ℕ → ℕ → Fin 96 → EReal) (a : Fin 14) (v0 v4 : FVec Ideal S1x2x224x96 .f32)
    (v2 : FVec Ideal S1x16x224x96 .f32) : Prop where
  before : 0 < (a : ℕ) → ∀ (r : Fin 2) (w : Fin 224) (c : Fin 96), v0 (ix4 0 r w c) = P (16 * a - 2 + r) w c
  here : ∀ (r : Fin 16) (w : Fin 224) (c : Fin 96), v2 (ix4 0 r w c) = P (16 * a + r) w c
  after : (a : ℕ) < 13 → ∀ (r : Fin 2) (w : Fin 224) (c : Fin 96), v4 (ix4 0 r w c) = P (16 * a + 16 + r) w c

variable {P : ℕ → ℕ → Fin 96 → EReal} {a : Fin 14} {v0 v4 : FVec Ideal S1x2x224x96 .f32}
    {v2 : FVec Ideal S1x16x224x96 .f32}

/-- Row `r` of the stack is image row `16 a + r - 2` where that row exists. -/
theorem raw_at (H : Rows P a v0 v4 v2) (r : Fin 20) (w : Fin 224) (c : Fin 96) (h1 : 0 < (a : ℕ) ∨ 2 ≤ (r : ℕ))
    (h2 : (a : ℕ) < 13 ∨ (r : ℕ) < 18) :
    k0_pay2 (F := Ideal) v0 v2 v4 (ix3 r w c) = P (16 * a + r - 2) w c := by
  pointwise [k0_pay2]
  by_cases c1 : (r : ℕ) < 2
  · rw [dif_pos c1, H.before (by omega)]; congr 1; simp only []; omega
  by_cases c2 : (r : ℕ) - 2 < 16
  · rw [dif_neg c1, dif_pos c2, H.here]; congr 1; simp only []; omega
  · rw [dif_neg c1, dif_neg c2, H.after (by omega)]; congr 1; simp only []; omega

/-- The kernel's test "first row block, and one of the two rows before it". -/
theorem first_word : ∀ (a : Fin 14) (r : Fin 20), IntOp.andi (Scalar.cmpi CmpIPredicate.eq (BitVec.ofNat 32 a) 0#32)
    (IntOp.cmpi CmpIPredicate.slt (BitVec.ofNat 32 r) 2#32) = if (a : ℕ) = 0 ∧ (r : ℕ) < 2 then 1#1 else 0#1 := by
  decide +kernel

/-- The kernel's test "last row block, and one of the two rows after it". -/
theorem last_word : ∀ (a : Fin 14) (r : Fin 20), IntOp.andi (Scalar.cmpi CmpIPredicate.eq (BitVec.ofNat 32 a) 13#32)
    (IntOp.cmpi CmpIPredicate.sgt (BitVec.ofNat 32 r) 17#32) = if (a : ℕ) = 13 ∧ 17 < (r : ℕ) then 1#1 else 0#1 := by
  decide +kernel

/-- The kernel's row mask of the convolution, as a word: 1 where row `16 a + r - 1` exists. -/
theorem mask_word : ∀ (a : Fin 14) (r : Fin 18), BitVec.setWidth 32
    (IntOp.andi
      (IntOp.cmpi CmpIPredicate.sge (IntOp.subi (IntOp.addi (BitVec.ofNat 32 r) (Scalar.muli (BitVec.ofNat 32 a) 16#32)) 1#32) 0#32)
      (IntOp.cmpi CmpIPredicate.slt (IntOp.subi (IntOp.addi (BitVec.ofNat 32 r) (Scalar.muli (BitVec.ofNat 32 a) 16#32)) 1#32)
        224#32)) = if 1 ≤ 16 * (a : ℕ) + r ∧ 16 * (a : ℕ) + r < 225 then 1#32 else 0#32 := by
  decide +kernel

/-- Row `r` of the stack after the two row replacements at the image's edges is image row `16 a + r - 2`, clamped. -/
theorem edge_row (H : Rows P a v0 v4 v2) (r : Fin 20) (w : Fin 224) (c : Fin 96) :
    Scalar.select
      (IntOp.andi (Scalar.cmpi CmpIPredicate.eq (BitVec.ofNat 32 a) 13#32)
        (IntOp.cmpi CmpIPredicate.sgt (BitVec.ofNat 32 r) 17#32))
      (k0_pay2 (F := Ideal) v0 v2 v4 (ix3 17 w c))
      (Scalar.select
        (IntOp.andi (Scalar.cmpi CmpIPredicate.eq (BitVec.ofNat 32 a) 0#32)
          (IntOp.cmpi CmpIPredicate.slt (BitVec.ofNat 32 r) 2#32))
        (k0_pay2 (F := Ideal) v0 v2 v4 (ix3 2 w c)) (k0_pay2 (F := Ideal) v0 v2 v4 (ix3 r w c)))
      = P (cl (16 * a + r)) w c := by
  rw [first_word, last_word]
  by_cases c1 : (a : ℕ) = 13 ∧ 17 < (r : ℕ)
  · rw [if_pos c1]
    refine (raw_at H 17 w c (Or.inr (by decide)) (Or.inr (by decide))).trans ?_
    congr 1; unfold cl; have : ((17 : Fin 20) : ℕ) = 17 := rfl; omega
  rw [if_neg c1]
  by_cases c2 : (a : ℕ) = 0 ∧ (r : ℕ) < 2
  · rw [if_pos c2]
    refine (raw_at H 2 w c (Or.inr (by decide)) (Or.inr (by decide))).trans ?_
    congr 1; unfold cl; have : ((2 : Fin 20) : ℕ) = 2 := rfl; omega
  · rw [if_neg c2]
    refine (raw_at H r w c (by omega) (by omega)).trans ?_
    congr 1; unfold cl; omega

/-- The projected rows: entry `n` of the 20 rows of 224 places is the projection of the clamped image row. -/
theorem proj_at (i : grid0.Coords) (ha : (i 1).val = a) (H : Rows P a v0 v4 v2) (v31 : FVec Ideal S96x96 .f32)
    (v33 : FVec Ideal S1x96 .f32) (r : Fin 20) (w : Fin 224) (n : Fin 4480) (hn : (n : ℕ) = r * 224 + w) (c : Fin 96) :
    k0_pay3 (F := Ideal) i v0 v2 v4 v31 v33 (ix2 n c)
      = ∑ k : Fin 96, P (cl (16 * a + r)) w k * v31 (ix2 k c) + v33 (ix2 0 c) := by
  pointwise [k0_pay3]
  refine congrArg (· + v33 (ix2 0 c)) (Finset.sum_congr rfl fun k _ => congrArg (· * v31 (ix2 k c)) ?_)
  have e1 : (n : ℕ) / 224 = r := by omega
  have e2 : (⟨(n : ℕ) % 224, Nat.mod_lt _ (by decide)⟩ : Fin 224) = w := Fin.ext (by simp only []; omega)
  have e3 : (⟨(n : ℕ) / 224, by omega⟩ : Fin 20) = r := Fin.ext e1
  rw [e2, e3, e1, ha]
  exact edge_row H r w k

/-- The column-padded projected rows: row `r`, column `w` is the projection at the clamped image place. -/
theorem xpp_at (i : grid0.Coords) (ha : (i 1).val = a) (H : Rows P a v0 v4 v2) (v31 : FVec Ideal S96x96 .f32)
    (v33 : FVec Ideal S1x96 .f32) (r : Fin 20) (w : Fin 228) (c : Fin 96) :
    k0_pay4 (F := Ideal) (k0_pay3 (F := Ideal) i v0 v2 v4 v31 v33) (ix3 r w c)
      = ∑ k : Fin 96, P (cl (16 * a + r)) (cl w) k * v31 (ix2 k c) + v33 (ix2 0 c) := by
  have hc := cl_le w
  have key : ∀ n : Fin 4480, (n : ℕ) = r * 224 + cl w → k0_pay3 (F := Ideal) i v0 v2 v4 v31 v33 (ix2 n c)
      = ∑ k : Fin 96, P (cl (16 * a + r)) (cl w) k * v31 (ix2 k c) + v33 (ix2 0 c) := fun n hn =>
    proj_at i ha H v31 v33 r ⟨cl w, by omega⟩ n hn c
  unfold cl at key ⊢
  pointwise [k0_pay4]
  by_cases c1 : (w : ℕ) < 1
  · rw [dif_pos c1]; exact key _ (by simp only []; omega)
  rw [dif_neg c1]
  by_cases c2 : (w : ℕ) - 1 < 1
  · rw [dif_pos c2]; exact key _ (by simp only []; omega)
  rw [dif_neg c2]
  by_cases c3 : (w : ℕ) - 1 - 1 < 224
  · rw [dif_pos c3]; exact key _ (by simp only []; omega)
  rw [dif_neg c3]
  by_cases c4 : (w : ℕ) - 1 - 1 - 224 < 1
  · rw [dif_pos c4]; exact key _ (by simp only []; omega)
  rw [dif_neg c4]; exact key _ (by simp only []; omega)

/-- The kernel's row mask of the convolution, as a number. -/
theorem mask_val (a : Fin 14) (r : Fin 18) : FloatOps.sitofp (F := Ideal) FTy.f32 (BitVec.setWidth 32
    (IntOp.andi
      (IntOp.cmpi CmpIPredicate.sge (IntOp.subi (IntOp.addi (BitVec.ofNat 32 r) (Scalar.muli (BitVec.ofNat 32 a) 16#32)) 1#32) 0#32)
      (IntOp.cmpi CmpIPredicate.slt (IntOp.subi (IntOp.addi (BitVec.ofNat 32 r) (Scalar.muli (BitVec.ofNat 32 a) 16#32)) 1#32)
        224#32))) = if 1 ≤ 16 * (a : ℕ) + r ∧ 16 * (a : ℕ) + r < 225 then (1 : EReal) else 0 := by
  rw [mask_word]
  split_ifs
  · show (((1#32 : BitVec 32).toInt : ℝ) : EReal) = 1
    rw [show (1#32 : BitVec 32).toInt = 1 from by decide]; norm_num
  · show (((0#32 : BitVec 32).toInt : ℝ) : EReal) = 0
    rw [show (0#32 : BitVec 32).toInt = 0 from by decide]; norm_num

/-- The convolution's rows: row `r`, column `w` of the padded block is the zero-bordered image at row `16 a + r`. -/
theorem xcp_at (H : Rows P a v0 v4 v2) (r : Fin 18) (w : Fin 226) (c : Fin 96) :
    k0_pay5 (F := Ideal) (BitVec.ofNat 32 a) (k0_pay2 (F := Ideal) v0 v2 v4) (ix3 r w c) = zpad P (16 * a + r) w c := by
  pointwise [k0_pay5]
  unfold zpad
  have hw := w.isLt
  by_cases c1 : (w : ℕ) < 1
  · exact (dif_pos c1).trans (if_neg (by omega)).symm
  refine (dif_neg c1).trans ?_
  by_cases c2 : (w : ℕ) - 1 < 224
  · refine (dif_pos c2).trans ?_
    refine (congrArg (k0_pay2 (F := Ideal) v0 v2 v4 (ix3 ⟨1 + r, by omega⟩ ⟨w - 1, by omega⟩ c) * ·) (mask_val a r)).trans ?_
    by_cases c3 : 1 ≤ 16 * (a : ℕ) + r ∧ 16 * (a : ℕ) + r < 225
    · rw [if_pos c3, if_pos ⟨c3.1, c3.2, by omega, by omega⟩, mul_one]
      refine (raw_at H ⟨1 + r, by omega⟩ ⟨w - 1, by omega⟩ c (by simp only []; omega) (by simp only []; omega)).trans ?_
      congr 1; simp only []; omega
    · rw [if_neg c3, if_neg (fun h => c3 ⟨h.1, h.2.1⟩), mul_zero]
  · exact (dif_neg c2).trans (if_neg (by omega)).symm

end Dcn.Kernel

end
-- ==== Proof.KConv.lean ====
module

public import proofs.«01_k».proof.Proof.KProj

@[expose] public section

set_option maxRecDepth 16384

/-! What the kernel body computes from the zero-padded rows: the depthwise convolution, its product with its own
    logistic, and the pointwise product. -/

noncomputable section

open Idealize.ShloMosaic Idealize.ShloMosaic.TcCoe Idealize.SL.Sem

namespace Dcn.Kernel
open Cert.KernelIdeal Cert.KernelIdeal.Gen

variable {P : ℕ → ℕ → Fin 96 → EReal} {a : Fin 14} {v0 v4 : FVec Ideal S1x2x224x96 .f32}
  {v2 : FVec Ideal S1x16x224x96 .f32}

set_option maxHeartbeats 1000000 in
/-- The first four taps of the convolution. -/
theorem taps_at (H : Rows P a v0 v4 v2) (v61 : FVec Ideal S9x96 .f32) (r : Fin 16) (w : Fin 224) (c : Fin 96) :
    k0_pay7 (F := Ideal) (BitVec.ofNat 32 a) (k0_pay2 (F := Ideal) v0 v2 v4) v61 (ix3 r w c)
      = zpad P (16 * a + r) w c * v61 (ix2 0 c) + zpad P (16 * a + r) (w + 1) c * v61 (ix2 1 c)
        + zpad P (16 * a + r) (w + 2) c * v61 (ix2 2 c) + zpad P (16 * a + r + 1) w c * v61 (ix2 3 c) := by
  have hx := fun (r : Fin 18) (w : Fin 226) => xcp_at H r w c
  pointwise [k0_pay7, k0_pay6]
  simp only [hx]
  rw [Nat.add_comm 1 (w : ℕ), Nat.add_comm 2 (w : ℕ), Nat.add_comm 1 (r : ℕ), ← Nat.add_assoc]

set_option maxHeartbeats 1000000 in
/-- The features of the block at row `r` of its flattened pixels: image row `16 a + n / 224`, column `n % 224`. -/
theorem feat_at (H : Rows P a v0 v4 v2) (v61 : FVec Ideal S9x96 .f32) (v125 v136 : FVec Ideal S1x96 .f32)
    (v133 : FVec Ideal S96x96 .f32) (n : Fin 3584) (c : Fin 96) :
    k0_pay8 (F := Ideal) (k0_pay5 (BitVec.ofNat 32 a) (k0_pay2 v0 v2 v4)) (k0_pay6 v61)
        (k0_pay7 (BitVec.ofNat 32 a) (k0_pay2 v0 v2 v4) v61) v125 v133 v136 (ix2 n c)
      = feat (dwc P (fun t k => v61 (ix2 t k)) fun k => v125 (ix2 0 k)) (fun k c => v133 (ix2 k c))
          (fun c => v136 (ix2 0 c)) (16 * a + n / 224) (n % 224) c := by
  have hx := fun (r : Fin 18) (w : Fin 226) => xcp_at H r w
  have ht := taps_at H v61
  pointwise [k0_pay8, k0_pay6]
  have e1 : ∀ x : ℕ, 1 + x = x + 1 := fun x => Nat.add_comm 1 x
  have e2 : ∀ x : ℕ, 2 + x = x + 2 := fun x => Nat.add_comm 2 x
  simp only [hx, ht, e1, e2, ← Nat.add_assoc]
  unfold feat dwc
  rfl

end Dcn.Kernel

end
-- ==== Proof.KOff.lean ====
module

public import proofs.«01_k».proof.Proof.Words
public import proofs.«01_k».proof.Proof.KConv

@[expose] public section

set_option maxRecDepth 16384

/-! What the kernel body computes from the features: the offsets and mask logits, the group-wise normalised weights,
    and the hat functions of the offsets. Nothing here depends on the image. -/

noncomputable section

open Idealize.ShloMosaic Idealize.ShloMosaic.TcCoe Idealize.SL.Sem

namespace Dcn.Kernel
open Cert.KernelIdeal Cert.KernelIdeal.Gen

set_option maxHeartbeats 1000000 in
/-- The offset and logit array of the block: an affine map of the features. -/
theorem om_at (a : ℕ) (X : ℕ → ℕ → Fin 96 → EReal) (v139 : FVec Ideal S3584x96 .f32) (v140 : FVec Ideal S96x108 .f32)
    (v143 : FVec Ideal S1x108 .f32)
    (hX : ∀ (n : Fin 3584) (c : Fin 96), v139 (ix2 n c) = X (16 * a + n / 224) (n % 224) c)
    (r : Fin 16) (w : Fin 224) (j : Fin 108) :
    k0_pay9 (F := Ideal) v139 v140 v143 (ix3 r w j)
      = lin X (fun k j => v140 (ix2 k j)) (fun j => v143 (ix2 0 j)) (16 * a + r) w j := by
  pointwise [k0_pay9]
  simp only [hX]
  unfold lin
  have h1 : (r * 224 + w : ℕ) / 224 = r := by have := w.isLt; omega
  have h2 : (r * 224 + w : ℕ) % 224 = w := by have := w.isLt; omega
  rw [h1, h2]

/-- The exponentials: each logit less one number of the pixel (the largest of its 36 logits). -/
theorem exp_at (v139 : FVec Ideal S3584x96 .f32) (v140 : FVec Ideal S96x108 .f32)
    (v143 : FVec Ideal S1x108 .f32) (r : Fin 16) (w : Fin 224) (L : Fin 36 → ℝ)
    (hL : ∀ j : Fin 36, k0_pay9 (F := Ideal) v139 v140 v143 (ix3 r w ⟨72 + j, by omega⟩) = (L j : EReal)) :
    ∃ m : ℝ, ∀ j : Fin 36, k0_pay10 (F := Ideal) v139 v140 v143 (ix3 r w j) = Ideal.exp ((L j : EReal) - m) := by
  obtain ⟨m, hm⟩ := fold_max_real Finset.univ Finset.univ_nonempty L
  refine ⟨m, fun j => ?_⟩
  pointwise [k0_pay10]
  simp only [hL, bot_word]
  rw [hm]

/-- The normalised weights: each exponential over the sum of the exponentials of its own group of nine. -/
theorem norm_at (v153 : FVec Ideal S16x224x36 .f32) (r : Fin 16) (w : Fin 224) (g : Fin 4) (k : Fin 9) :
    k0_pay15 (F := Ideal) v153 k0_pay11 (iota .tc S36x36 32 [1] iota_S36x36_d1_w32) 9#32 k0_pay12 k0_pay13 k0_pay14
        (ix3 r w ⟨g * 9 + k, by omega⟩)
      = Ideal.div (v153 (ix3 r w ⟨g * 9 + k, by omega⟩)) (∑ k' : Fin 9, v153 (ix3 r w ⟨g * 9 + k', by omega⟩)) := by
  pointwise [k0_pay15, k0_pay11, k0_pay12, k0_pay13, k0_pay14]
  refine congrArg _ (Eq.trans (Finset.sum_congr rfl fun x _ => congrArg _ (bool_val _ ((x : ℕ) / 9 = g) ?_))
    (group_sum (fun x => v153 (ix3 r w x)) g))
  revert x g k
  decide +kernel

/-- The normalised weights are the softmax weights of each group's nine logits. -/
theorem attn_at (v139 : FVec Ideal S3584x96 .f32) (v140 : FVec Ideal S96x108 .f32)
    (v143 : FVec Ideal S1x108 .f32) (r : Fin 16) (w : Fin 224) (L : Fin 36 → ℝ)
    (hL : ∀ j : Fin 36, k0_pay9 (F := Ideal) v139 v140 v143 (ix3 r w ⟨72 + j, by omega⟩) = (L j : EReal))
    (g : Fin 4) (k : Fin 9) :
    k0_pay15 (F := Ideal) (k0_pay10 v139 v140 v143) k0_pay11 (iota .tc S36x36 32 [1] iota_S36x36_d1_w32) 9#32 k0_pay12
        k0_pay13 k0_pay14 (ix3 r w ⟨g * 9 + k, by omega⟩)
      = (softw Finset.univ (fun k' : Fin 9 => L ⟨g * 9 + k', by omega⟩) (L ⟨g * 9 + k, by omega⟩) : EReal) := by
  obtain ⟨m, hm⟩ := exp_at v139 v140 v143 r w L hL
  rw [norm_at]
  simp only [hm]
  exact softmax_shift Finset.univ Finset.univ_nonempty _ _ _

/-- The kernel's coordinates of the nine sample points: columns 0 to 35 hold the row coordinate, columns 36 to 71 the
    column coordinate. -/
theorem grid_at (j : Fin 72) :
    k0_pay18 (F := Ideal) k0_pay16 k0_pay17 (Scalar.select (Scalar.cmpi .eq 3#32 0#32) 1#32 3#32) (ix3 0 0 j)
      = (((if (j : ℕ) < 36 then (j : ℤ) % 9 / 3 - 1 else (j : ℤ) % 9 % 3 - 1 : ℤ) : ℝ) : EReal) := by
  pointwise [k0_pay18, k0_pay16, k0_pay17]
  refine (word_val _ (BitVec.ofInt 32 (if (j : ℕ) < 36 then (j : ℤ) % 9 / 3 - 1 else (j : ℤ) % 9 % 3 - 1)) ?_).trans ?_
  · revert j
    decide +kernel
  · rw [show (BitVec.ofInt 32 (if (j : ℕ) < 36 then (j : ℤ) % 9 / 3 - 1 else (j : ℤ) % 9 % 3 - 1)).toInt
      = (if (j : ℕ) < 36 then (j : ℤ) % 9 / 3 - 1 else (j : ℤ) % 9 % 3 - 1) from by revert j; decide +kernel]

/-- The selection matrix: one where column `j` of the 36 belongs to the group of channel `c`. -/
theorem sel_at (j : Fin 36) (c : Fin 96) :
    k0_pay41 (F := Ideal) k0_pay36 k0_pay37 k0_pay38 k0_pay39 k0_pay40 (ix2 j c)
      = if (j : ℕ) / 9 = c / 24 then (1 : EReal) else 0 := by
  pointwise [k0_pay36, k0_pay37, k0_pay38, k0_pay39, k0_pay40, k0_pay41]
  refine bool_val _ _ ?_
  revert j c
  decide +kernel

/-- The scaled offsets. -/
theorem scaled_at (v147 : FVec Ideal S16x224x108 .f32) (r : Fin 16) (w : Fin 224) (j : Fin 72) :
    k0_pay19 (F := Ideal) v147 (ix3 r w j) = v147 (ix3 r w ⟨j, by omega⟩) * (sc : EReal) := by
  pointwise [k0_pay19]
  rw [sc_word]

/-- The hat function of a real distance, as the kernel computes it. -/
theorem hat_val (p d : ℝ) (x y : EReal) (hx : x = p) (hy : y = d) :
    max (1 - FloatOps.absf (F := Ideal) (φ := .f32) (x - y)) 0 = (hat (p - d) : EReal) := by
  subst hx hy
  rw [← EReal.coe_sub]
  show max (1 - max ((p - d : ℝ) : EReal) (-((p - d : ℝ) : EReal))) 0 = _
  unfold hat
  rw [← EReal.coe_neg, ← EReal.coe_strictMono.monotone.map_max, ← EReal.coe_one, ← EReal.coe_sub, ← EReal.coe_zero,
    ← EReal.coe_strictMono.monotone.map_max]
  rfl

/-- The middle hat, at zero. -/
theorem hat_mid (p : ℝ) (x : EReal) (hx : x = p) :
    max (1 - FloatOps.absf (F := Ideal) (φ := .f32) x) 0 = (hat p : EReal) := by
  have h := hat_val p 0 x 0 hx EReal.coe_zero.symm
  rwa [sub_zero, sub_zero] at h

/-- The five numbers the kernel places its hat functions at. -/
theorem two_word : Ideal.ofBits .f32 0x40000000#32 = ((2 : ℝ) : EReal) := by
  simp [Ideal.ofBits, Ideal.ieee]; rw [← EReal.coe_mul]; norm_num

/-- The constant minus two. -/
theorem neg_two_word : Ideal.ofBits .f32 0xC0000000#32 = ((-2 : ℝ) : EReal) := by
  simp [Ideal.ofBits, Ideal.ieee]; rw [← EReal.coe_mul]; norm_num

section Hats
variable (v275 : FVec Ideal S1x1x72 .f32) (v278 : FVec Ideal S16x224x72 .f32) (r : Fin 16) (w : Fin 224) (j : Fin 36)
  (p : ℝ)

/-- The hats of the row coordinate. -/
theorem row_hats (hp : v278 (ix3 r w ⟨j, by omega⟩) + v275 (ix3 0 0 ⟨j, by omega⟩) = (p : EReal)) :
    k0_pay26 (F := Ideal) v275 v278 (ix3 r w j) = (hat (p - (-2)) : EReal)
    ∧ k0_pay27 (F := Ideal) v275 v278 (ix3 r w j) = (hat (p - (-1)) : EReal)
    ∧ k0_pay28 (F := Ideal) v275 v278 (ix3 r w j) = (hat (p - 0) : EReal)
    ∧ k0_pay29 (F := Ideal) v275 v278 (ix3 r w j) = (hat (p - 1) : EReal)
    ∧ k0_pay30 (F := Ideal) v275 v278 (ix3 r w j) = (hat (p - 2) : EReal) := by
  refine ⟨?_, ?_, ?_, ?_, ?_⟩
  · pointwise [k0_pay26, k0_pay21, k0_pay20]; exact hat_val p _ _ _ hp neg_two_word
  · pointwise [k0_pay27, k0_pay22, k0_pay20]; exact hat_val p _ _ _ hp neg_one_word
  · pointwise [k0_pay28, k0_pay23, k0_pay20]; exact hat_mid p _ hp
  · pointwise [k0_pay29, k0_pay24, k0_pay20]; exact hat_val p _ _ _ hp EReal.coe_one.symm
  · pointwise [k0_pay30, k0_pay25, k0_pay20]; exact hat_val p _ _ _ hp two_word

/-- The hats of the column coordinate. -/
theorem col_hats (hp : v278 (ix3 r w ⟨36 + j, by omega⟩) + v275 (ix3 0 0 ⟨36 + j, by omega⟩) = (p : EReal)) :
    k0_pay31 (F := Ideal) v275 v278 (ix3 r w j) = (hat (p - (-2)) : EReal)
    ∧ k0_pay32 (F := Ideal) v275 v278 (ix3 r w j) = (hat (p - (-1)) : EReal)
    ∧ k0_pay33 (F := Ideal) v275 v278 (ix3 r w j) = (hat (p - 0) : EReal)
    ∧ k0_pay34 (F := Ideal) (k0_pay24 v275 v278) (ix3 r w j) = (hat (p - 1) : EReal)
    ∧ k0_pay35 (F := Ideal) (k0_pay25 v275 v278) (ix3 r w j) = (hat (p - 2) : EReal) := by
  refine ⟨?_, ?_, ?_, ?_, ?_⟩
  · pointwise [k0_pay31, k0_pay21, k0_pay20]; exact hat_val p _ _ _ hp neg_two_word
  · pointwise [k0_pay32, k0_pay22, k0_pay20]; exact hat_val p _ _ _ hp neg_one_word
  · pointwise [k0_pay33, k0_pay23, k0_pay20]; exact hat_mid p _ hp
  · pointwise [k0_pay34, k0_pay24, k0_pay20]; exact hat_val p _ _ _ hp EReal.coe_one.symm
  · pointwise [k0_pay35, k0_pay25, k0_pay20]; exact hat_val p _ _ _ hp two_word

end Hats

end Dcn.Kernel

end
-- ==== Proof.KComb.lean ====
module

public import proofs.«01_k».proof.Proof.KOff

@[expose] public section

set_option maxRecDepth 16384

/-! What the kernel body computes from the projected rows, the weights and the hats: the sum over the five by five
    neighbourhood and the output projection. -/

noncomputable section

open Idealize.ShloMosaic Idealize.ShloMosaic.TcCoe Idealize.SL.Sem

namespace Dcn.Kernel
open Cert.KernelIdeal Cert.KernelIdeal.Gen

/-- One row of the neighbourhood, at row `r`, column `w`, channel `c` of the block: five products of the selected sum
    (weights `A`, row hat `Y`, column hat `X`) with the projected image `V` at its row `r'` and five columns from `w` on. -/
def row (V : FVec Ideal S20x228x96 .f32) (A Y X0 X1 X2 X3 X4 : FVec Ideal S16x224x36 .f32) (S : FVec Ideal S36x96 .f32)
    (r : Fin 16) (w : Fin 224) (c : Fin 96) (r' : Fin 20) : EReal :=
  (∑ j : Fin 36, A (ix3 r w j) * Y (ix3 r w j) * X0 (ix3 r w j) * S (ix2 j c)) * V (ix3 r' ⟨w, by omega⟩ c)
    + (∑ j : Fin 36, A (ix3 r w j) * Y (ix3 r w j) * X1 (ix3 r w j) * S (ix2 j c)) * V (ix3 r' ⟨1 + w, by omega⟩ c)
    + ((∑ j : Fin 36, A (ix3 r w j) * Y (ix3 r w j) * X2 (ix3 r w j) * S (ix2 j c)) * V (ix3 r' ⟨2 + w, by omega⟩ c)
      + (∑ j : Fin 36, A (ix3 r w j) * Y (ix3 r w j) * X3 (ix3 r w j) * S (ix2 j c)) * V (ix3 r' ⟨3 + w, by omega⟩ c))
    + (∑ j : Fin 36, A (ix3 r w j) * Y (ix3 r w j) * X4 (ix3 r w j) * S (ix2 j c)) * V (ix3 r' ⟨4 + w, by omega⟩ c)

section
variable (V : FVec Ideal S20x228x96 .f32) (A Y X0 X1 X2 X3 X4 : FVec Ideal S16x224x36 .f32)
  (S : FVec Ideal S36x96 .f32) (s0 s1 : IVec S36x96 32) (s2 : IVec S36x96 1) (s3 s4 : IVec S36x96 32)
  (r : Fin 16) (w : Fin 224) (c : Fin 96)

set_option maxHeartbeats 1000000 in
/-- The first row of the neighbourhood. -/
theorem row0_at : k0_pay42 (F := Ideal) V A Y X0 X1 X2 X3 X4 s0 s1 s2 s3 s4 (ix3 r w c)
    = row V A Y X0 X1 X2 X3 X4 (k0_pay41 s0 s1 s2 s3 s4) r w c ⟨r, by omega⟩ := by
  pointwise [k0_pay42]
  rfl

set_option maxHeartbeats 1000000 in
/-- The second row of the neighbourhood. -/
theorem row1_at : k0_pay46 (F := Ideal) V X2 X3 X4 (k0_pay41 s0 s1 s2 s3 s4) (k0_pay43 A Y)
      (k0_pay44 V A Y X0 s0 s1 s2 s3 s4) (k0_pay45 A Y X1) (constant S3584x96 .f32 0x00000000#32) (ix3 r w c)
    = row V A Y X0 X1 X2 X3 X4 (k0_pay41 s0 s1 s2 s3 s4) r w c ⟨1 + r, by omega⟩ := by
  pointwise [k0_pay46, k0_pay43, k0_pay44, k0_pay45]
  rfl

set_option maxHeartbeats 1000000 in
/-- The third row of the neighbourhood. -/
theorem row2_at : k0_pay53 (F := Ideal) V S (k0_pay48 V A Y X0 S) (k0_pay49 V A Y X1 S) (k0_pay50 V A Y X2 S)
      (k0_pay51 V A Y X3 S) (k0_pay52 A Y X4) (ix3 r w c)
    = row V A Y X0 X1 X2 X3 X4 S r w c ⟨2 + r, by omega⟩ := by
  pointwise [k0_pay53, k0_pay48, k0_pay49, k0_pay50, k0_pay51, k0_pay52, k0_pay47]
  rfl

set_option maxHeartbeats 1000000 in
/-- The fourth row of the neighbourhood. -/
theorem row3_at : k0_pay54 (F := Ideal) V A Y X0 X1 X2 X3 X4 S (ix3 r w c)
    = row V A Y X0 X1 X2 X3 X4 S r w c ⟨3 + r, by omega⟩ := by
  pointwise [k0_pay54]
  rfl

set_option maxHeartbeats 1000000 in
/-- The fifth row of the neighbourhood, the sum of the five rows, and the output projection. -/
theorem out_at (p0 p1 p2 p3 : FVec Ideal S16x224x96 .f32) (Wo : FVec Ideal S96x96 .f32) (bo : FVec Ideal S1x96 .f32) :
    k0_pay58 (F := Ideal) V X2 X3 X4 S p0 p1 p2 p3 (k0_pay55 A Y) (k0_pay56 V A Y X0 S) (k0_pay57 A Y X1)
      (constant S3584x96 .f32 0x00000000#32) Wo bo (ix3 r w c)
    = ∑ k : Fin 96, (p0 (ix3 r w k) + p1 (ix3 r w k) + (p2 (ix3 r w k) + p3 (ix3 r w k))
        + row V A Y X0 X1 X2 X3 X4 S r w k ⟨4 + r, by omega⟩) * Wo (ix2 k c) + bo (ix2 0 c) := by
  pointwise [k0_pay58, k0_pay55, k0_pay56, k0_pay57]
  rfl

end

/-- The five rows together are the nine weighted bilinear samples of the channel's group. -/
theorem rows_sum (V : FVec Ideal S20x228x96 .f32) (A Y0 Y1 Y2 Y3 Y4 X0 X1 X2 X3 X4 : FVec Ideal S16x224x36 .f32)
    (S : FVec Ideal S36x96 .f32) (r : Fin 16) (w : Fin 224) (c : Fin 96) (g : Fin 4) (b : ℕ) (hb : b + r ≤ 223)
    (F : ℕ → ℕ → EReal) (a p q : Fin 9 → ℝ) (ha : ∀ k, 0 ≤ a k)
    (hp : ∀ k, |p k| ≤ 2) (hq : ∀ k, |q k| ≤ 2)
    (hS : ∀ j : Fin 36, S (ix2 j c) = if (j : ℕ) / 9 = g then 1 else 0)
    (hA : ∀ k : Fin 9, A (ix3 r w ⟨g * 9 + k, by omega⟩) = (a k : EReal))
    (hY0 : ∀ k : Fin 9, Y0 (ix3 r w ⟨g * 9 + k, by omega⟩) = (hat (p k - (-2)) : EReal))
    (hY1 : ∀ k : Fin 9, Y1 (ix3 r w ⟨g * 9 + k, by omega⟩) = (hat (p k - (-1)) : EReal))
    (hY2 : ∀ k : Fin 9, Y2 (ix3 r w ⟨g * 9 + k, by omega⟩) = (hat (p k - 0) : EReal))
    (hY3 : ∀ k : Fin 9, Y3 (ix3 r w ⟨g * 9 + k, by omega⟩) = (hat (p k - 1) : EReal))
    (hY4 : ∀ k : Fin 9, Y4 (ix3 r w ⟨g * 9 + k, by omega⟩) = (hat (p k - 2) : EReal))
    (hX0 : ∀ k : Fin 9, X0 (ix3 r w ⟨g * 9 + k, by omega⟩) = (hat (q k - (-2)) : EReal))
    (hX1 : ∀ k : Fin 9, X1 (ix3 r w ⟨g * 9 + k, by omega⟩) = (hat (q k - (-1)) : EReal))
    (hX2 : ∀ k : Fin 9, X2 (ix3 r w ⟨g * 9 + k, by omega⟩) = (hat (q k - 0) : EReal))
    (hX3 : ∀ k : Fin 9, X3 (ix3 r w ⟨g * 9 + k, by omega⟩) = (hat (q k - 1) : EReal))
    (hX4 : ∀ k : Fin 9, X4 (ix3 r w ⟨g * 9 + k, by omega⟩) = (hat (q k - 2) : EReal))
    (hV : ∀ (r' : Fin 20) (w' : Fin 228), V (ix3 r' w' c) = F (cl (b + r')) (cl w')) :
    row V A Y0 X0 X1 X2 X3 X4 S r w c ⟨r, by omega⟩ + row V A Y1 X0 X1 X2 X3 X4 S r w c ⟨1 + r, by omega⟩
        + (row V A Y2 X0 X1 X2 X3 X4 S r w c ⟨2 + r, by omega⟩ + row V A Y3 X0 X1 X2 X3 X4 S r w c ⟨3 + r, by omega⟩)
        + row V A Y4 X0 X1 X2 X3 X4 S r w c ⟨4 + r, by omega⟩
      = ∑ k : Fin 9, bil F (p k) (q k) (b + r) w * (a k : EReal) := by
  have hat5 : ∀ (Z : Fin 5 → Fin 36 → EReal) (t : Fin 9 → ℝ)
      (h0 : ∀ k : Fin 9, Z 0 ⟨g * 9 + k, by omega⟩ = (hat (t k - (-2)) : EReal))
      (h1 : ∀ k : Fin 9, Z 1 ⟨g * 9 + k, by omega⟩ = (hat (t k - (-1)) : EReal))
      (h2 : ∀ k : Fin 9, Z 2 ⟨g * 9 + k, by omega⟩ = (hat (t k - 0) : EReal))
      (h3 : ∀ k : Fin 9, Z 3 ⟨g * 9 + k, by omega⟩ = (hat (t k - 1) : EReal))
      (h4 : ∀ k : Fin 9, Z 4 ⟨g * 9 + k, by omega⟩ = (hat (t k - 2) : EReal)) (d : Fin 5) (k : Fin 9),
      Z d ⟨g * 9 + k, by omega⟩ = (hat (t k - ((d : ℕ) - 2 : ℝ)) : EReal) := by
    intro Z t h0 h1 h2 h3 h4 d k
    have e : ∀ x y : ℝ, x = y → (hat (t k - x) : EReal) = (hat (t k - y) : EReal) := fun x y h => by rw [h]
    fin_cases d
    · exact (h0 k).trans (e _ _ (by norm_num))
    · exact (h1 k).trans (e _ _ (by norm_num))
    · exact (h2 k).trans (e _ _ (by norm_num))
    · exact (h3 k).trans (e _ _ (by norm_num))
    · exact (h4 k).trans (e _ _ (by norm_num))
  have key := comb g (fun j => A (ix3 r w j)) (fun j => S (ix2 j c))
    (fun d j => (![Y0, Y1, Y2, Y3, Y4] d) (ix3 r w j)) (fun d j => (![X0, X1, X2, X3, X4] d) (ix3 r w j))
    (fun dy dx => F (cl (b + r + dy)) (cl (w + dx))) F (b + r) w hb (by omega) a p q ha hp hq hS hA
    (hat5 (fun d j => (![Y0, Y1, Y2, Y3, Y4] d) (ix3 r w j)) p hY0 hY1 hY2 hY3 hY4)
    (hat5 (fun d j => (![X0, X1, X2, X3, X4] d) (ix3 r w j)) q hX0 hX1 hX2 hX3 hX4) (fun _ _ => rfl)
  rw [← key]
  unfold row
  simp only [hV, Fin.sum_univ_five]
  have e0 : ∀ n : ℕ, n + ((0 : Fin 5) : ℕ) = n := fun n => rfl
  have e1 : ∀ n : ℕ, n + ((1 : Fin 5) : ℕ) = 1 + n := fun n => Nat.add_comm n 1
  have e2 : ∀ n : ℕ, n + ((2 : Fin 5) : ℕ) = 2 + n := fun n => Nat.add_comm n 2
  have e3 : ∀ n : ℕ, n + ((3 : Fin 5) : ℕ) = 3 + n := fun n => Nat.add_comm n 3
  have e4 : ∀ n : ℕ, n + ((4 : Fin 5) : ℕ) = 4 + n := fun n => Nat.add_comm n 4
  rw [e0, e1, e2, e3, e4, e0, e1, e2, e3, e4, Nat.add_left_comm 1 b, Nat.add_left_comm 2 b, Nat.add_left_comm 3 b,
    Nat.add_left_comm 4 b]
  simp only [add_assoc]
  rfl

end Dcn.Kernel

end
-- ==== Proof.KBlock.lean ====
module

public import proofs.«01_k».proof.Proof.KComb

@[expose] public section

set_option maxRecDepth 16384

/-! What one block of the output holds: the body's composed result at a pixel is the deformed sample of the projected
    image, through the output projection. -/

noncomputable section

open Idealize.ShloMosaic Idealize.ShloMosaic.TcCoe Idealize.SL.Sem

namespace Dcn.Kernel
open Cert.KernelIdeal Cert.KernelIdeal.Gen

section
variable (i : grid0.Coords) (v0 v4 : FVec Ideal S1x2x224x96 .f32) (v2 : FVec Ideal S1x16x224x96 .f32)
  (Wi : FVec Ideal S96x96 .f32) (bi : FVec Ideal S1x96 .f32) (D : FVec Ideal S9x96 .f32) (d : FVec Ideal S1x96 .f32)
  (Wp : FVec Ideal S96x96 .f32) (bp : FVec Ideal S1x96 .f32) (Wm : FVec Ideal S96x108 .f32)
  (bm : FVec Ideal S1x108 .f32) (Wo : FVec Ideal S96x96 .f32) (bo : FVec Ideal S1x96 .f32)

/-- The projected rows of the block. -/
abbrev bV : FVec Ideal S20x228x96 .f32 := k0_pay4 (k0_pay3 i v0 v2 v4 Wi bi)
/-- The features of the block. -/
abbrev bX : FVec Ideal S3584x96 .f32 :=
  k0_pay8 (k0_pay5 (BitVec.ofNat 32 (i 1).val) (k0_pay2 v0 v2 v4)) (k0_pay6 D)
    (k0_pay7 (BitVec.ofNat 32 (i 1).val) (k0_pay2 v0 v2 v4) D) d Wp bp
/-- The weights of the block. -/
abbrev bA : FVec Ideal S16x224x36 .f32 :=
  k0_pay15 (k0_pay10 (bX i v0 v4 v2 D d Wp bp) Wm bm) k0_pay11 (iota .tc S36x36 32 [1] iota_S36x36_d1_w32) 9#32 k0_pay12
    k0_pay13 k0_pay14
/-- The coordinates of the sample points. -/
abbrev bG : FVec Ideal S1x1x72 .f32 :=
  k0_pay18 k0_pay16 k0_pay17 (Scalar.select (Scalar.cmpi .eq 3#32 0#32) 1#32 3#32)
/-- The scaled offsets of the block. -/
abbrev bO : FVec Ideal S16x224x72 .f32 := k0_pay19 (k0_pay9 (bX i v0 v4 v2 D d Wp bp) Wm bm)
/-- The selection matrix. -/
abbrev bS : FVec Ideal S36x96 .f32 := k0_pay41 k0_pay36 k0_pay37 k0_pay38 k0_pay39 k0_pay40

/-- The sum over the neighbourhood and the output projection, from the projected rows `V`, weights `A`, coordinates `G`
    and scaled offsets `O`. -/
abbrev bOut (V : FVec Ideal S20x228x96 .f32) (A : FVec Ideal S16x224x36 .f32) (G : FVec Ideal S1x1x72 .f32)
    (O : FVec Ideal S16x224x72 .f32) : FVec Ideal S16x224x96 .f32 :=
  k0_pay58 V (k0_pay33 G O) (k0_pay34 (k0_pay24 G O)) (k0_pay35 (k0_pay25 G O)) bS
    (k0_pay42 V A (k0_pay26 G O) (k0_pay31 G O) (k0_pay32 G O) (k0_pay33 G O) (k0_pay34 (k0_pay24 G O))
      (k0_pay35 (k0_pay25 G O)) k0_pay36 k0_pay37 k0_pay38 k0_pay39 k0_pay40)
    (k0_pay46 V (k0_pay33 G O) (k0_pay34 (k0_pay24 G O)) (k0_pay35 (k0_pay25 G O)) bS (k0_pay43 A (k0_pay27 G O))
      (k0_pay44 V A (k0_pay27 G O) (k0_pay31 G O) k0_pay36 k0_pay37 k0_pay38 k0_pay39 k0_pay40)
      (k0_pay45 A (k0_pay27 G O) (k0_pay32 G O)) (constant S3584x96 .f32 0x00000000#32))
    (k0_pay53 V bS (k0_pay48 V A (k0_pay28 G O) (k0_pay31 G O) bS) (k0_pay49 V A (k0_pay28 G O) (k0_pay32 G O) bS)
      (k0_pay50 V A (k0_pay28 G O) (k0_pay33 G O) bS) (k0_pay51 V A (k0_pay28 G O) (k0_pay34 (k0_pay24 G O)) bS)
      (k0_pay52 A (k0_pay28 G O) (k0_pay35 (k0_pay25 G O))))
    (k0_pay54 V A (k0_pay29 G O) (k0_pay31 G O) (k0_pay32 G O) (k0_pay33 G O) (k0_pay34 (k0_pay24 G O))
      (k0_pay35 (k0_pay25 G O)) bS)
    (k0_pay55 A (k0_pay30 G O)) (k0_pay56 V A (k0_pay30 G O) (k0_pay31 G O) bS)
    (k0_pay57 A (k0_pay30 G O) (k0_pay32 G O)) (constant S3584x96 .f32 0x00000000#32) Wo bo

end

set_option maxHeartbeats 2000000 in
/-- ONE BLOCK AT A PIXEL. Where the affine map of the features is real (offsets `oy`, `ox` of scaled size at most one, logits
    `l`), the body's result is the deformed sample of the projected image through the output projection. -/
theorem block_at (P : ℕ → ℕ → Fin 96 → EReal) (i : grid0.Coords) (a : Fin 14) (hi : (i 1).val = a)
    (v0 v4 : FVec Ideal S1x2x224x96 .f32) (v2 : FVec Ideal S1x16x224x96 .f32) (H : Rows P a v0 v4 v2)
    (Wi : FVec Ideal S96x96 .f32) (bi : FVec Ideal S1x96 .f32) (D : FVec Ideal S9x96 .f32) (d : FVec Ideal S1x96 .f32)
    (Wp : FVec Ideal S96x96 .f32) (bp : FVec Ideal S1x96 .f32) (Wm : FVec Ideal S96x108 .f32)
    (bm : FVec Ideal S1x108 .f32) (Wo : FVec Ideal S96x96 .f32) (bo : FVec Ideal S1x96 .f32)
    (r : Fin 16) (w : Fin 224) (c : Fin 96) (oy ox l : Fin 4 → Fin 9 → ℝ)
    (om : ℕ → ℕ → Fin 108 → EReal)
    (hom : om = lin (feat (dwc P (fun t k => D (ix2 t k)) fun k => d (ix2 0 k)) (fun k c => Wp (ix2 k c))
      (fun c => bp (ix2 0 c))) (fun k j => Wm (ix2 k j)) (fun j => bm (ix2 0 j)))
    (hy : ∀ g k, om (16 * a + r) w ⟨(g : Fin 4) * 9 + (k : Fin 9), by omega⟩ = (oy g k : EReal))
    (hx : ∀ g k, om (16 * a + r) w ⟨36 + ((g : Fin 4) * 9 + (k : Fin 9)), by omega⟩ = (ox g k : EReal))
    (hl : ∀ g k, om (16 * a + r) w ⟨72 + ((g : Fin 4) * 9 + (k : Fin 9)), by omega⟩ = (l g k : EReal))
    (hy1 : ∀ g k, |oy g k * sc| ≤ 1) (hx1 : ∀ g k, |ox g k * sc| ≤ 1) :
    bOut Wo bo (bV i v0 v4 v2 Wi bi) (bA i v0 v4 v2 D d Wp bp Wm bm) bG (bO i v0 v4 v2 D d Wp bp Wm bm) (ix3 r w c)
      = ∑ k : Fin 96, samp (lin P (fun k c => Wi (ix2 k c)) fun c => bi (ix2 0 c)) oy ox l (16 * a + r) w k
          * Wo (ix2 k c) + bo (ix2 0 c) := by
  have ha := a.isLt
  have hO : ∀ j : Fin 108, k0_pay9 (F := Ideal) (bX i v0 v4 v2 D d Wp bp) Wm bm (ix3 r w j) = om (16 * a + r) w j := by
    intro j
    rw [hom]
    refine om_at a _ _ Wm bm (fun n c => ?_) r w j
    show k0_pay8 (F := Ideal) (k0_pay5 (BitVec.ofNat 32 (i 1).val) (k0_pay2 v0 v2 v4)) (k0_pay6 D)
      (k0_pay7 (BitVec.ofNat 32 (i 1).val) (k0_pay2 v0 v2 v4) D) d Wp bp (ix2 n c) = _
    rw [hi]
    exact feat_at H D d bp Wp n c
  have hL : ∀ j : Fin 36, k0_pay9 (F := Ideal) (bX i v0 v4 v2 D d Wp bp) Wm bm (ix3 r w ⟨72 + j, by omega⟩)
      = ((l ⟨j / 9, by omega⟩ ⟨j % 9, by omega⟩ : ℝ) : EReal) := by
    intro j
    rw [hO, ← hl]
    congr 1
    exact Fin.ext (by simp only []; omega)
  have hA : ∀ (g : Fin 4) (k : Fin 9), bA i v0 v4 v2 D d Wp bp Wm bm (ix3 r w ⟨g * 9 + k, by omega⟩)
      = (softw Finset.univ (l g) (l g k) : EReal) := by
    intro g k
    refine (attn_at _ Wm bm r w _ hL g k).trans ?_
    have e : ∀ k : Fin 9, l ⟨(g * 9 + k : ℕ) / 9, by omega⟩ ⟨(g * 9 + k : ℕ) % 9, by omega⟩ = l g k := fun k => by
      congr 1 <;> exact Fin.ext (by simp only []; omega)
    simp only [e]
  have hPY : ∀ (g : Fin 4) (k : Fin 9), bO i v0 v4 v2 D d Wp bp Wm bm (ix3 r w ⟨((⟨g * 9 + k, by omega⟩ : Fin 36) : ℕ), by omega⟩)
      + bG (ix3 0 0 ⟨((⟨g * 9 + k, by omega⟩ : Fin 36) : ℕ), by omega⟩) = (ptY (oy g k) k : EReal) := by
    intro g k
    refine (congrArg₂ (· + ·) ((scaled_at _ r w _).trans (congrArg (· * (sc : EReal)) ((hO _).trans (hy g k))))
      (grid_at _)).trans ?_
    rw [if_pos (by simp only []; omega), ← EReal.coe_mul, ← EReal.coe_add]
    unfold ptY
    congr 4
    simp only []
    omega
  have hPX : ∀ (g : Fin 4) (k : Fin 9), bO i v0 v4 v2 D d Wp bp Wm bm (ix3 r w ⟨36 + ((⟨g * 9 + k, by omega⟩ : Fin 36) : ℕ), by omega⟩)
      + bG (ix3 0 0 ⟨36 + ((⟨g * 9 + k, by omega⟩ : Fin 36) : ℕ), by omega⟩) = (ptX (ox g k) k : EReal) := by
    intro g k
    refine (congrArg₂ (· + ·) ((scaled_at _ r w _).trans (congrArg (· * (sc : EReal)) ((hO _).trans (hx g k))))
      (grid_at _)).trans ?_
    rw [if_neg (by simp only []; omega), ← EReal.coe_mul, ← EReal.coe_add]
    unfold ptX
    congr 4
    simp only []
    omega
  refine (out_at _ _ _ _ _ _ _ _ _ r w c _ _ _ _ Wo bo).trans ?_
  refine congrArg (· + bo (ix2 0 c)) (Finset.sum_congr rfl fun k _ => congrArg (· * Wo (ix2 k c)) ?_)
  rw [row0_at, row1_at, row2_at, row3_at]
  have RY := fun k' : Fin 9 => row_hats bG (bO i v0 v4 v2 D d Wp bp Wm bm) r w ⟨grp k * 9 + k', by omega⟩ _ (hPY (grp k) k')
  have RX := fun k' : Fin 9 => col_hats bG (bO i v0 v4 v2 D d Wp bp Wm bm) r w ⟨grp k * 9 + k', by omega⟩ _ (hPX (grp k) k')
  refine rows_sum _ _ _ _ _ _ _ _ _ _ _ _ _ r w k (grp k) (16 * a) (by omega)
    (fun h' w' => lin P (fun k c => Wi (ix2 k c)) (fun c => bi (ix2 0 c)) h' w' k) (fun k' => softw Finset.univ (l (grp k)) (l (grp k) k')) (fun k' => ptY (oy (grp k) k') k')
    (fun k' => ptX (ox (grp k) k') k') (fun k' => softw_nonneg _ _ _) (fun k' => ptY_le _ (hy1 _ _) _)
    (fun k' => ptX_le _ (hx1 _ _) _) (fun j => sel_at j k) (hA (grp k))
    (fun k' => (RY k').1) (fun k' => (RY k').2.1) (fun k' => (RY k').2.2.1) (fun k' => (RY k').2.2.2.1)
    (fun k' => (RY k').2.2.2.2) (fun k' => (RX k').1) (fun k' => (RX k').2.1) (fun k' => (RX k').2.2.1)
    (fun k' => (RX k').2.2.2.1) (fun k' => (RX k').2.2.2.2) (fun r' w' => ?_)
  exact xpp_at i hi H Wi bi r' w' k

end Dcn.Kernel

end
-- ==== Proof.KFinal.lean ====
module

public import proofs.«01_k».proof.Proof.KBlock
public import proofs.«01_k».proof.Proof.Gen.KernelIdeal.Value
public import Idealize.ShloMosaic.Lib.Pipeline.ValueKit

@[expose] public section

set_option maxRecDepth 16384

/-! What the kernel's result array holds after the run. -/

noncomputable section

open Idealize.ShloMosaic Idealize.ShloMosaic.TcCoe Idealize.SL.Sem
open Idealize.ShloMosaic.Pipeline (Dat)

namespace Dcn.Kernel
open Cert.KernelIdeal Cert.KernelIdeal.Gen

variable (m : (ℓ : Loc nD τ sig) → Buf (Elt Ideal) ℓ)

/-- The argument arrays of a launch. -/
def args (c : Dev nD) : Args where
  x := m ((c : Thread nD τ).loc main_arg0)
  Wi := m ((c : Thread nD τ).loc main_arg1)
  bi := m ((c : Thread nD τ).loc main_arg2)
  Wo := m ((c : Thread nD τ).loc main_arg3)
  bo := m ((c : Thread nD τ).loc main_arg4)
  D := m ((c : Thread nD τ).loc main_arg5)
  d := m ((c : Thread nD τ).loc main_arg6)
  Wp := m ((c : Thread nD τ).loc main_arg7)
  bp := m ((c : Thread nD τ).loc main_arg8)
  Wf := m ((c : Thread nD τ).loc main_arg9)
  bf := m ((c : Thread nD τ).loc main_arg10)
  Wk := m ((c : Thread nD τ).loc main_arg11)
  bk := m ((c : Thread nD τ).loc main_arg12)

/-- Every window's block index at every grid point. -/
theorem idx : ∀ t : Fin cfg0.N,
    win0_0.index t = ![(grid0.coords t 0).val, (grid0.coords t 1).val - 1, 0, 0]
    ∧ win0_1.index t = ![(grid0.coords t 0).val, (grid0.coords t 1).val, 0, 0]
    ∧ win0_2.index t = ![(grid0.coords t 0).val, min ((grid0.coords t 1).val + 1) 13, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0]
    ∧ win0_13.index t = ![(grid0.coords t 0).val, (grid0.coords t 1).val, 0, 0] :=
  (by decide +kernel : ∀ t : Fin grid0.N, _)

/-- The result array, index by index. -/
def OUT (A : Args) : FVec Ideal S2x224x224x96 .f32 := fun y => A.out (y 0) (y 1).val (y 2).val (y 3)

/-- The block's stored value, without its leading axis of size one. -/
theorem pay1_at (v : FVec Ideal S16x224x96 .f32) (r : Fin 16) (w : Fin 224) (c : Fin 96) :
    k0_pay1 v (ix4 0 r w c) = v (ix3 r w c) := by
  pointwise [k0_pay1]

set_option maxHeartbeats 2000000 in
/-- WHAT THE BODY LEAVES in the output block, from the blocks it is given. -/
theorem body_at (P : ℕ → ℕ → Fin 96 → EReal) (i : grid0.Coords) (a : Fin 14) (hi : (i 1).val = a)
    (x0 x1 x2 : FVec Ideal S1x16x224x96 .f32)
    (h0 : 0 < (a : ℕ) → ∀ (r : Fin 16) (w : Fin 224) (c : Fin 96), x0 (ix4 0 r w c) = P (16 * (a - 1) + r) w c)
    (h1 : ∀ (r : Fin 16) (w : Fin 224) (c : Fin 96), x1 (ix4 0 r w c) = P (16 * a + r) w c)
    (h2 : (a : ℕ) < 13 → ∀ (r : Fin 16) (w : Fin 224) (c : Fin 96), x2 (ix4 0 r w c) = P (16 * (a + 1) + r) w c)
    (Wi : FVec Ideal S96x96 .f32) (bi : FVec Ideal S1x96 .f32) (D : FVec Ideal S9x96 .f32) (d : FVec Ideal S1x96 .f32)
    (Wp : FVec Ideal S96x96 .f32) (bp : FVec Ideal S1x96 .f32) (Wm : FVec Ideal S96x108 .f32)
    (bm : FVec Ideal S1x108 .f32) (Wo : FVec Ideal S96x96 .f32) (bo : FVec Ideal S1x96 .f32)
    (r : Fin 16) (w : Fin 224) (c : Fin 96) (oy ox l : Fin 4 → Fin 9 → ℝ)
    (om : ℕ → ℕ → Fin 108 → EReal)
    (hom : om = lin (feat (dwc P (fun t k => D (ix2 t k)) fun k => d (ix2 0 k)) (fun k c => Wp (ix2 k c))
      (fun c => bp (ix2 0 c))) (fun k j => Wm (ix2 k j)) (fun j => bm (ix2 0 j)))
    (hy : ∀ g k, om (16 * a + r) w ⟨(g : Fin 4) * 9 + (k : Fin 9), by omega⟩ = (oy g k : EReal))
    (hx : ∀ g k, om (16 * a + r) w ⟨36 + ((g : Fin 4) * 9 + (k : Fin 9)), by omega⟩ = (ox g k : EReal))
    (hl : ∀ g k, om (16 * a + r) w ⟨72 + ((g : Fin 4) * 9 + (k : Fin 9)), by omega⟩ = (l g k : EReal))
    (hy1 : ∀ g k, |oy g k * sc| ≤ 1) (hx1 : ∀ g k, |ox g k * sc| ≤ 1) :
    (out0_13 (F := Ideal) i x0 x1 x2 Wi bi D d Wp bp Wm bm Wo bo (ix4 0 r w c) : EReal)
      = ∑ k : Fin 96, samp (lin P (fun k c => Wi (ix2 k c)) fun c => bi (ix2 0 c)) oy ox l (16 * a + r) w k
          * Wo (ix2 k c) + bo (ix2 0 c) := by
  unfold_out out0_13
  frame_out
  refine (pay1_at _ r w c).trans ?_
  refine block_at P i a hi _ _ _ ⟨fun h r w c => ?_, h1, fun h r w c => ?_⟩ Wi bi D d Wp bp Wm bm Wo bo r w c oy ox l om
    hom hy hx hl hy1 hx1
  · pointwise [h0 h]
    exact congrArg (fun n => P n w c) (by omega)
  · pointwise [h2 h]
    exact congrArg (fun n => P n w c) (by omega)

variable (c : Dev nD) (t : Fin cfg0.N)

/-- The input projection's weights reach the body whole. -/
theorem blk3 (k j : Fin 96) : iblk m c 3 t (ix2 k j) = (args m c).Wi (ix2 k j) := by
  unfold args; blk_ext [iblk, V, idx t]

/-- The output projection's weights reach the body whole. -/
theorem blk11 (k j : Fin 96) : iblk m c 11 t (ix2 k j) = (args m c).Wo (ix2 k j) := by
  unfold args; blk_ext [iblk, V, idx t]

/-- The input projection's bias, as a row. -/
theorem blk4 (j : Fin 96) : iblk m c 4 t (ix2 0 j) = (args m c).bi (ix1 j) := by
  unfold args; blk_point [iblk, idx t]

/-- The depthwise weights, tap by tap. -/
theorem blk5 (k : Fin 9) (j : Fin 96) : iblk m c 5 t (ix2 k j) = (args m c).D (ix4 ⟨k / 3, by omega⟩ ⟨k % 3, by omega⟩ 0 j) := by
  unfold args; blk_point [iblk, idx t]

/-- The depthwise bias, as a row. -/
theorem blk6 (j : Fin 96) : iblk m c 6 t (ix2 0 j) = (args m c).d (ix1 j) := by
  unfold args; blk_point [iblk, idx t]

/-- The pointwise weights. -/
theorem blk7 (k j : Fin 96) : iblk m c 7 t (ix2 k j) = (args m c).Wp (ix4 0 0 k j) := by
  unfold args; blk_point [iblk, idx t]

/-- The pointwise bias, as a row. -/
theorem blk8 (j : Fin 96) : iblk m c 8 t (ix2 0 j) = (args m c).bp (ix1 j) := by
  unfold args; blk_point [iblk, idx t]

/-- The output projection's bias, as a row. -/
theorem blk12 (j : Fin 96) : iblk m c 12 t (ix2 0 j) = (args m c).bo (ix1 j) := by
  unfold args; blk_point [iblk, idx t]

/-- The joined weights: row offsets, column offsets, then the attention. -/
theorem mix_at (k : Fin 96) (j : Fin 108) : V m c main_v6 (ix2 k j)
    = if h : (j : ℕ) < 72 then (args m c).Wf (ix2 k ⟨j / 9 % 4 * 18 + j % 9 * 2 + j / 36, by omega⟩)
      else (args m c).Wk (ix2 k ⟨j - 72, by omega⟩) := by
  unfold args; entry_read; pointwise

/-- The joined biases, in the same order. -/
theorem bias_at (j : Fin 108) : V m c main_v8 (ix2 0 j)
    = if h : (j : ℕ) < 72 then (args m c).bf (ix1 ⟨j / 9 % 4 * 18 + j % 9 * 2 + j / 36, by omega⟩)
      else (args m c).bk (ix1 ⟨j - 72, by omega⟩) := by
  unfold args; entry_read; pointwise

/-- The joined weights reach the body whole. -/
theorem blk9 (k : Fin 96) (j : Fin 108) : iblk m c 9 t (ix2 k j) = V m c main_v6 (ix2 k j) := by
  blk_ext [iblk, idx t]

/-- The joined biases reach the body whole. -/
theorem blk10 (j : Fin 108) : iblk m c 10 t (ix2 0 j) = V m c main_v8 (ix2 0 j) := by
  blk_ext [iblk, idx t]

/-- The first input block: the rows before the block's, where there are any. -/
theorem blk0 (h : 0 < (grid0.coords t 1).val) (r : Fin 16) (w : Fin 224) (k : Fin 96) :
    iblk m c 0 t (ix4 0 r w k) = img (args m c).x (grid0.coords t 0) (16 * ((grid0.coords t 1).val - 1) + r) w k := by
  have h1 := (grid0.coords t 1).isLt
  unfold img args
  rw [dif_pos ⟨by change _ < 14 at h1; omega, w.isLt⟩]
  blk_ext [iblk, V, idx t]

/-- The second input block: the block's own rows. -/
theorem blk1 (r : Fin 16) (w : Fin 224) (k : Fin 96) :
    iblk m c 1 t (ix4 0 r w k) = img (args m c).x (grid0.coords t 0) (16 * (grid0.coords t 1).val + r) w k := by
  have h1 := (grid0.coords t 1).isLt
  unfold img args
  rw [dif_pos ⟨by change _ < 14 at h1; omega, w.isLt⟩]
  blk_ext [iblk, V, idx t]

/-- The third input block: the rows after the block's, where there are any. -/
theorem blk2 (h : (grid0.coords t 1).val < 13) (r : Fin 16) (w : Fin 224) (k : Fin 96) :
    iblk m c 2 t (ix4 0 r w k) = img (args m c).x (grid0.coords t 0) (16 * ((grid0.coords t 1).val + 1) + r) w k := by
  unfold img args
  rw [dif_pos ⟨by omega, w.isLt⟩]
  blk_ext [iblk, V, idx t]

/-- The mixed affine map of the block's features is the offsets, row coordinates first, then the logits. -/
abbrev om (A : Args) (b : Fin 2) (n w : ℕ) (j : Fin 108) : EReal :=
  if h : (j : ℕ) < 72 then A.offs b n w ⟨j / 9 % 4 * 18 + j % 9 * 2 + j / 36, by omega⟩
  else A.logits b n w ⟨j - 72, by omega⟩

/-- The features computed from a block's weights are the problem's. -/
theorem feats_blk (b : Fin 2) :
    feat (dwc (img (args m c).x b) (fun p k => iblk m c 5 t (ix2 p k)) fun k => iblk m c 6 t (ix2 0 k))
      (fun k j => iblk m c 7 t (ix2 k j)) (fun j => iblk m c 8 t (ix2 0 j)) = (args m c).feats b := by
  simp only [blk5, blk6, blk7, blk8]
  rfl

/-- The body's joined affine map is `om`. -/
theorem om_eq (b : Fin 2) :
    om (args m c) b = lin (feat (dwc (img (args m c).x b) (fun p k => iblk m c 5 t (ix2 p k)) fun k => iblk m c 6 t (ix2 0 k))
      (fun k j => iblk m c 7 t (ix2 k j)) (fun j => iblk m c 8 t (ix2 0 j))) (fun k j => iblk m c 9 t (ix2 k j))
      (fun j => iblk m c 10 t (ix2 0 j)) := by
  funext n w j
  rw [feats_blk]
  have e9 := fun k => (blk9 m c t k j).trans (mix_at m c k j)
  have e10 := (blk10 m c t j).trans (bias_at m c j)
  by_cases h : (j : ℕ) < 72
  · simp only [dif_pos h] at e9 e10
    exact (dif_pos h).trans (congrArg₂ (· + ·) (Finset.sum_congr rfl fun k _ => congrArg (_ * ·) (e9 k).symm) e10.symm)
  · simp only [dif_neg h] at e9 e10
    exact (dif_neg h).trans (congrArg₂ (· + ·) (Finset.sum_congr rfl fun k _ => congrArg (_ * ·) (e9 k).symm) e10.symm)

/-- The first 36 outputs are the taps' row offsets. -/
theorem om_y (A : Args) (b : Fin 2) (n w : ℕ) (g : Fin 4) (k : Fin 9) (h) :
    om A b n w ⟨g * 9 + k, h⟩ = A.offs b n w ⟨g * 18 + k * 2, by omega⟩ := by
  rw [om, dif_pos (by simp only []; omega)]
  congr 1; apply Fin.ext; simp only []; omega

/-- The next 36 outputs are the taps' column offsets. -/
theorem om_x (A : Args) (b : Fin 2) (n w : ℕ) (g : Fin 4) (k : Fin 9) (h) :
    om A b n w ⟨36 + (g * 9 + k), h⟩ = A.offs b n w ⟨g * 18 + k * 2 + 1, by omega⟩ := by
  rw [om, dif_pos (by simp only []; omega)]
  congr 1; apply Fin.ext; simp only []; omega

/-- The last 36 outputs are the attention logits. -/
theorem om_l (A : Args) (b : Fin 2) (n w : ℕ) (g : Fin 4) (k : Fin 9) (h) :
    om A b n w ⟨72 + (g * 9 + k), h⟩ = A.logits b n w ⟨g * 9 + k, by omega⟩ := by
  rw [om, dif_neg (by simp only []; omega)]
  congr 1; apply Fin.ext; simp only []; omega

/-- ONE POINT of the grid: what it leaves is its rows of the result. -/
theorem point (hg : (args m c).Good) (r : Fin 16) (w : Fin 224) (j : Fin 96) (hn) :
    (out0_13 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (ix4 0 r w j) : EReal)
      = OUT (args m c) (ix4 (grid0.coords t 0) ⟨16 * (grid0.coords t 1).val + r, hn⟩ w j) := by
  refine (body_at (img (args m c).x (grid0.coords t 0)) (grid0.coords t) (grid0.coords t 1) rfl _ _ _
    (blk0 m c t) (blk1 m c t) (blk2 m c t) _ _ _ _ _ _ _ _ _ _ r w j
    ((args m c).oy (grid0.coords t 0) (16 * (grid0.coords t 1).val + r) w)
    ((args m c).ox (grid0.coords t 0) (16 * (grid0.coords t 1).val + r) w)
    ((args m c).lg (grid0.coords t 0) (16 * (grid0.coords t 1).val + r) w)
    (om (args m c) (grid0.coords t 0)) (om_eq m c t _)
    (fun g k => (om_y _ _ _ _ g k _).trans (hg.off _ ⟨_, hn⟩ w _))
    (fun g k => (om_x _ _ _ _ g k _).trans (hg.off _ ⟨_, hn⟩ w _))
    (fun g k => (om_l _ _ _ _ g k _).trans (hg.log _ ⟨_, hn⟩ w _))
    (fun g k => hg.small _ ⟨_, hn⟩ w _) (fun g k => hg.small _ ⟨_, hn⟩ w _)).trans ?_
  simp only [blk3, blk4, blk11, blk12]
  rfl

/-- WHAT THE RESULT ARRAY HOLDS after the run, wherever the offsets are small and the logits real. -/
theorem final (hg : (args m c).Good) : (dats m 0 c).arrAt 13 (cfgs 0).N = OUT (args m c) := by
  refine (dats m 0 c).arrAt_eq_of_covers 13 _ (by decide +kernel) fun t _ y => ?_
  blk_simp
  rw [after0_13]
  have h1 := (grid0.coords t 1).isLt
  change _ < 14 at h1
  obtain ⟨y0, r, w, j, rfl⟩ : ∃ a b c d, y = ix4 (a : Fin 1) (b : Fin 16) (c : Fin 224) (d : Fin 96) :=
    ⟨y 0, y 1, y 2, y 3, by blk_ext⟩
  obtain rfl : y0 = 0 := Subsingleton.elim _ _
  refine (point m c t hg r w j (by omega)).trans ?_
  blk_ext [idx t]

end Dcn.Kernel

end
-- ==== Proof.Pad.lean ====
module

public import proofs.«01_k».proof.Proof.Spec
public import Idealize.ShloMosaic.Lib.Pointwise

@[expose] public section

set_option maxRecDepth 16384

/-! Padding an image batch with zeros. -/

noncomputable section

open Idealize.ShloMosaic Idealize.ShloMosaic.TcCoe Idealize.SL.Sem

namespace Dcn

/-- The word zero as a number. -/
theorem zero_sitofp (x : BitVec 32) (h : x = 0#32) : FloatOps.sitofp (F := Ideal) FTy.f32 x = 0 := by
  subst h
  show ((((0#32 : BitVec 32).toInt : ℤ) : ℝ) : EReal) = 0
  simp

/-- An image batch with a border of zeros, one place wide. -/
theorem pad_zero (x : FVec Ideal (⟨4, ![2, 224, 224, 96]⟩ : Shape) .f32) (v : FVec Ideal (⟨0, ![]⟩ : Shape) .f32) (hv : ∀ i, v i = 0)
    (hp : (⟨4, ![2, 224, 224, 96]⟩ : Shape).Pads (![0, 1, 1, 0] : Fin 4 → Nat) ![0, 1, 1, 0] ![0, 0, 0, 0] (⟨4, ![2, 226, 226, 96]⟩ : Shape)) (hu : 0 < (⟨0, ![]⟩ : Shape).numel)
    (b : Fin 2) (n w : Fin 226) (c : Fin 96) :
    pad (⟨4, ![2, 226, 226, 96]⟩ : Shape) ![0, 1, 1, 0] ![0, 1, 1, 0] ![0, 0, 0, 0] x v hp hu (ix4 b n w c) = zpad (img x b) n w c := by
  pointwise
  unfold zpad img
  by_cases h : 1 ≤ (n : ℕ) ∧ (n : ℕ) < 225 ∧ 1 ≤ (w : ℕ) ∧ (w : ℕ) < 225
  · obtain ⟨h1, h2, h3, h4⟩ := h
    rw [if_pos ⟨h1, h2, h3, h4⟩, dif_pos (⟨by omega, by omega⟩ : (n : ℕ) - 1 < 224 ∧ (w : ℕ) - 1 < 224)]
    exact dif_pos ⟨⟨h1, by omega⟩, h3, by omega⟩
  · rw [if_neg h]
    refine (dif_neg fun g => h ?_).trans (hv _)
    omega

end Dcn

end
-- ==== Proof.RConv.lean ====
module

public import proofs.«01_k».proof.Proof.Pad
public import proofs.«01_k».proof.Proof.Spec
public import proofs.«01_k».proof.Proof.Gen.ReferenceIdeal.Run
public import Idealize.ShloMosaic.Lib.Pointwise

@[expose] public section

set_option maxRecDepth 16384

/-! The reference's affine maps of the image: the projection, the features, the offsets and the logits. -/

noncomputable section

open Idealize.ShloMosaic Idealize.ShloMosaic.TcCoe Idealize.SL.Sem

namespace Dcn.Reference
open Cert.ReferenceIdeal Cert.ReferenceIdeal.Gen Cert.ReferenceIdeal.Value

variable (V0 : Valuation τ sig (Elt Ideal))

/-- The argument arrays of the reference. -/
def args : Args where
  x := V0 (Proc.devRef .tc main_arg0)
  Wi := V0 (Proc.devRef .tc main_arg1)
  bi := V0 (Proc.devRef .tc main_arg2)
  Wo := V0 (Proc.devRef .tc main_arg3)
  bo := V0 (Proc.devRef .tc main_arg4)
  D := V0 (Proc.devRef .tc main_arg5)
  d := V0 (Proc.devRef .tc main_arg6)
  Wp := V0 (Proc.devRef .tc main_arg7)
  bp := V0 (Proc.devRef .tc main_arg8)
  Wf := V0 (Proc.devRef .tc main_arg9)
  bf := V0 (Proc.devRef .tc main_arg10)
  Wk := V0 (Proc.devRef .tc main_arg11)
  bk := V0 (Proc.devRef .tc main_arg12)

/-- Inside the image, its extension by zeros is the image. -/
theorem img_at (b : Fin 2) (n w : Fin 224) (c : Fin 96) : img (args V0).x b n w c = (args V0).x (ix4 b n w c) := by
  rw [img, dif_pos ⟨n.isLt, w.isLt⟩]

/-- The padded image. -/
theorem pad_at (b : Fin 2) (n w : Fin 226) (c : Fin 96) :
    res_main_v4 V0 (ix4 b n w c) = zpad (img (args V0).x b) n w c := by
  unfold res_main_v4
  exact pad_zero (args V0).x _ (fun _ => zero_sitofp _ rfl) _ _ b n w c

/-- The convolved image. -/
theorem conv_at (b : Fin 2) (n w : Fin 224) (c : Fin 96) : res_main_v71 V0 (ix4 b n w c) = (args V0).conv b n w c := by
  pointwise [res_main_v71, pad_at]
  rw [Nat.add_comm 1 (w : ℕ), Nat.add_comm 2 (w : ℕ), Nat.add_comm 1 (n : ℕ), Nat.add_comm 2 (n : ℕ)]
  rfl

/-- The features. -/
theorem feat_at (b : Fin 2) (n w : Fin 224) (c : Fin 96) : res_main_v83 V0 (ix4 b n w c) = (args V0).feats b n w c := by
  pointwise [res_main_v83, conv_at]
  rfl

/-- The logits. -/
theorem logit_at (b : Fin 2) (n w : Fin 224) (g : Fin 4) (k : Fin 9) :
    res_main_v95 V0 (ix5 b n w g k) = (args V0).logits b n w ⟨g * 9 + k, by omega⟩ := by
  pointwise [res_main_v95, feat_at]
  rfl

/-- The projected image, by groups. -/
theorem proj_at (b : Fin 2) (n w : Fin 224) (g : Fin 4) (j : Fin 24) :
    res_main_v133 V0 (ix5 b n w g j) = (args V0).proj b n w ⟨g * 24 + j, by omega⟩ := by
  pointwise [res_main_v133]
  unfold Args.proj lin
  simp only [img_at]
  rfl

end Dcn.Reference

end
-- ==== Proof.RSoft.lean ====
module

public import proofs.«01_k».proof.Proof.RConv
public import proofs.«01_k».proof.Proof.Soft
public import proofs.«01_k».proof.Proof.Words

@[expose] public section

set_option maxRecDepth 16384

/-! The reference's softmax over a group's nine logits, and its screening of non-numbers and infinities, which leaves real weights alone. -/

noncomputable section

open Idealize.ShloMosaic Idealize.ShloMosaic.TcCoe Idealize.SL.Sem

namespace Dcn.Reference
open Cert.ReferenceIdeal Cert.ReferenceIdeal.Gen Cert.ReferenceIdeal.Value

variable (V0 : Valuation τ sig (Elt Ideal))

section
variable (b : Fin 2) (n w : Fin 224) (g : Fin 4) (k : Fin 9)

/-- The largest of a group of real logits is a real number. -/
theorem max_read (L : FVec Ideal S2x224x224x4x9 .f32) (hL : ∀ i, ∃ r : ℝ, L i = (r : EReal)) :
    ∃ m : ℝ, (Host.reduce FloatOps.maximumf L (constant S_ .f32 0xFF800000#32) reducesTo_S2x224x224x4x9_S2x224x224x4_d4 h_S_ : FVec Ideal S2x224x224x4 .f32) (ix4 b n w g) = (m : EReal) := by
  choose l hl using hL
  obtain ⟨m, hm⟩ := fold_max_real (Finset.univ : Finset (Fin 9)) Finset.univ_nonempty
    (fun k => l ((show Shape.Reduces S2x224x224x4x9 [4] S2x224x224x4 by decide).lift (ix4 b n w g) k))
  refine ⟨m, ?_⟩
  rw [Host.reduce_eq_fold_single (FloatOps.maximumf (F := Ideal) (φ := .f32)) L _ _ (show Shape.Reduces S2x224x224x4x9 [4] S2x224x224x4 by decide)]
  refine Eq.trans ?_ hm
  refine (congrArg₂ (fun a f => Finset.fold max a f (Finset.univ : Finset (Fin 9))) bot_word (funext fun k => hl _))

/-- The largest of minus infinity and a real number is the real number. -/
theorem max_bot (M : FVec Ideal S2x224x224x4 .f32) (m : ℝ) (h : M (ix4 b n w g) = (m : EReal)) :
    (maximumf (broadcastInDim S2x224x224x4 ![] bcast_S_S2x224x224x4 (constant S_ .f32 0xFF800000#32)) M : FVec Ideal S2x224x224x4 .f32) (ix4 b n w g) = (m : EReal) := by
  pointwise
  rw [h]
  exact (congrArg (fun t => max t (m : EReal)) bot_word).trans (max_eq_right bot_le)

/-- The exponential of a logit less its group's largest. -/
theorem exp_read (L : FVec Ideal S2x224x224x4x9 .f32) (M : FVec Ideal S2x224x224x4 .f32) :
    (Host.exp (subf L (broadcastInDim S2x224x224x4x9 ![0, 1, 2, 3, 4] bcast_S2x224x224x4x1_S2x224x224x4x9_0_1_2_3_4 (broadcastInDim S2x224x224x4x1 ![0, 1, 2, 3] bcast_S2x224x224x4_S2x224x224x4x1_0_1_2_3 M))) : FVec Ideal S2x224x224x4x9 .f32) (ix5 b n w g k) = Ideal.exp (L (ix5 b n w g k) - M (ix4 b n w g)) := by
  pointwise

/-- The quotient of the exponentials. -/
theorem quot_read (e : FVec Ideal S2x224x224x4x9 .f32) :
    (Host.divf e (broadcastInDim S2x224x224x4x9 ![0, 1, 2, 3, 4] bcast_S2x224x224x4x1_S2x224x224x4x9_0_1_2_3_4 (broadcastInDim S2x224x224x4x1 ![0, 1, 2, 3] bcast_S2x224x224x4_S2x224x224x4x1_0_1_2_3 (Host.reduceAdd e (constant S_ .f32 0x00000000#32) reducesTo_S2x224x224x4x9_S2x224x224x4_d4 h_S_))) : FVec Ideal S2x224x224x4x9 .f32) (ix5 b n w g k)
      = Ideal.div (e (ix5 b n w g k)) (∑ k, e (ix5 b n w g k)) := by
  pointwise

/-- A real weight is not a non-number. -/
theorem une_read (q : FVec Ideal S2x224x224x4x9 .f32) :
    (select (cmpf .une q q) (broadcastInDim S2x224x224x4x9 ![] bcast_S_S2x224x224x4x9 (id (constant S_ .f32 0x00000000#32))) q : FVec Ideal S2x224x224x4x9 .f32) (ix5 b n w g k) = q (ix5 b n w g k) := by
  pointwise
  simp [FloatOps.cmpf, Scalar.select]

/-- A real weight is not plus infinity. -/
theorem top_read (q : FVec Ideal S2x224x224x4x9 .f32) (r : ℝ) (h : q (ix5 b n w g k) = (r : EReal)) :
    (select (cmpf .oeq q (broadcastInDim S2x224x224x4x9 ![] bcast_S_S2x224x224x4x9 (constant S_ .f32 0x7F800000#32))) (broadcastInDim S2x224x224x4x9 ![] bcast_S_S2x224x224x4x9 (constant S_ .f32 0x7F7FFFFF#32)) q : FVec Ideal S2x224x224x4x9 .f32) (ix5 b n w g k) = q (ix5 b n w g k) := by
  pointwise
  rw [if_neg]
  rw [h, show Ideal.ofBits .f32 2139095040#32 = (⊤ : EReal) from by simp [Ideal.ofBits, Ideal.ieee]]
  exact EReal.coe_ne_top r

/-- A real weight is not minus infinity. -/
theorem bot_read (q : FVec Ideal S2x224x224x4x9 .f32) (r : ℝ) (h : q (ix5 b n w g k) = (r : EReal)) :
    (select (cmpf .oeq q (broadcastInDim S2x224x224x4x9 ![] bcast_S_S2x224x224x4x9 (constant S_ .f32 0xFF800000#32))) (broadcastInDim S2x224x224x4x9 ![] bcast_S_S2x224x224x4x9 (constant S_ .f32 0xFF7FFFFF#32)) q : FVec Ideal S2x224x224x4x9 .f32) (ix5 b n w g k) = q (ix5 b n w g k) := by
  pointwise
  rw [if_neg]
  rw [h]
  exact fun hh => EReal.coe_ne_bot r (hh.trans bot_word)

/-- Every logit is real. -/
theorem logit_real (hg : (args V0).Good) (i : S2x224x224x4x9.Idx) : ∃ r : ℝ, res_main_v95 V0 i = (r : EReal) := by
  have h : i = ix5 (i 0) (i 1) (i 2) (i 3) (i 4) := by
    funext a; match a with | 0 => rfl | 1 => rfl | 2 => rfl | 3 => rfl | 4 => rfl
  exact ⟨_, (congrArg (res_main_v95 V0) h).trans ((logit_at V0 _ _ _ _ _).trans (hg.log _ _ _ _))⟩

/-- The group's exponentials, less one real number. -/
theorem exp_at (hg : (args V0).Good) : ∃ m : ℝ, ∀ k, res_main_v102 V0 (ix5 b n w g k)
    = Ideal.exp (((args V0).lg b n w g k : EReal) - m) := by
  obtain ⟨m, hm⟩ := max_read b n w g (res_main_v95 V0) (logit_real V0 hg)
  refine ⟨m, fun k => ?_⟩
  unfold res_main_v102
  refine (exp_read b n w g k (res_main_v95 V0) _).trans ?_
  refine congrArg Ideal.exp (congrArg₂ (fun x y : EReal => x - y) ?_ (max_bot b n w g _ m hm))
  exact (logit_at V0 _ _ _ _ _).trans (hg.log _ _ _ _)

/-- The quotient is the softmax weight of the group's logits. -/
theorem quot_at (hg : (args V0).Good) : res_main_v106 V0 (ix5 b n w g k)
    = (softw Finset.univ ((args V0).lg b n w g) ((args V0).lg b n w g k) : EReal) := by
  obtain ⟨m, hm⟩ := exp_at V0 b n w g hg
  unfold res_main_v106
  refine (quot_read b n w g k (res_main_v102 V0)).trans ?_
  refine Eq.trans ?_ (softmax_shift Finset.univ Finset.univ_nonempty ((args V0).lg b n w g) ((args V0).lg b n w g k) m)
  exact congrArg₂ Ideal.div (hm k) (Finset.sum_congr rfl fun k _ => hm k)

/-- The screened weight before its last screening. -/
theorem soft_at (hg : (args V0).Good) : res_main_call1_v5 V0 (ix5 b n w g k)
    = (softw Finset.univ ((args V0).lg b n w g) ((args V0).lg b n w g k) : EReal) := by
  have h2 : res_main_call1_v2 V0 (ix5 b n w g k)
      = (softw Finset.univ ((args V0).lg b n w g) ((args V0).lg b n w g k) : EReal) := by
    unfold res_main_call1_v2
    exact (une_read b n w g k (res_main_v106 V0)).trans (quot_at V0 b n w g k hg)
  unfold res_main_call1_v5
  exact (top_read b n w g k (res_main_call1_v2 V0) _ h2).trans h2

end

end Dcn.Reference

end
-- ==== Proof.RRead.lean ====
module

public import proofs.«01_k».proof.Proof.RConv
public import proofs.«01_k».proof.Proof.Words

@[expose] public section

set_option maxRecDepth 16384

/-! The reference's operations on sample points, each read at one index of one array. -/

noncomputable section

open Idealize.ShloMosaic Idealize.ShloMosaic.TcCoe Idealize.SL.Sem

namespace Dcn.Reference
open Cert.ReferenceIdeal Cert.ReferenceIdeal.Gen Cert.ReferenceIdeal.Value

section
variable (b : Fin 2) (n w : Fin 224) (g : Fin 4) (k : Fin 9)

/-- A scaled offset plus a tap. -/
theorem pt_val (a x s : EReal) (z : ℤ) (o r : ℝ) (ha : a = ((z : ℝ) : EReal)) (hx : x = (o : EReal)) (hs : s = (sc : EReal))
    (hr : o * sc + (z : ℝ) = r) : a + x * s = (r : EReal) := by
  rw [ha, hx, hs, ← EReal.coe_mul, ← EReal.coe_add, ← hr, add_comm]

/-- The larger of two reals, as an extended real. -/
theorem coe_max' (a b : ℝ) : ((max a b : ℝ) : EReal) = max (a : EReal) b := EReal.coe_strictMono.monotone.map_max

/-- The smaller of two reals, as an extended real. -/
theorem coe_min' (a b : ℝ) : ((min a b : ℝ) : EReal) = min (a : EReal) b := EReal.coe_strictMono.monotone.map_min

/-- A position, clamped into the image. -/
theorem pos_val (x q : EReal) (p : ℝ) (m : ℕ) (hm : m < 224) (hx : x = 0) (hq : q = (p : EReal)) :
    min (FloatOps.sitofp (F := Ideal) FTy.f32 223#32) (max x (q + FloatOps.sitofp (F := Ideal) FTy.f32 (BitVec.ofNat 32 m)))
      = (pos p m : EReal) := by
  rw [hx, hq, nat_val m (by omega), show (223#32 : BitVec 32) = BitVec.ofNat 32 223 from rfl, nat_val 223 (by omega), pos]
  rw [← EReal.coe_add, ← EReal.coe_zero, ← coe_max', ← coe_min']
  norm_num

/-- The place at or below a position. -/
theorem lo_val (x : EReal) (p : ℝ) (m : ℕ) (hx : x = (pos p m : EReal)) :
    IntOp.minsi 223#32 (IntOp.maxsi 0#32 (FloatOps.fptosi (F := Ideal) (φ := .f32) 32 (Ideal.liftRound Int.floor x)))
      = BitVec.ofNat 32 (lo p m) := by
  rw [hx]
  exact floor_word _ (pos_nonneg _ _) (pos_le _ _)

/-- The fractional part of a position. -/
theorem fr_val (x : EReal) (y : BitVec 32) (p : ℝ) (m : ℕ) (hx : x = (pos p m : EReal)) (hy : y = BitVec.ofNat 32 (lo p m)) :
    x - FloatOps.sitofp (F := Ideal) FTy.f32 y = (fr p m : EReal) := by
  have := lo_le p m
  rw [hx, hy, nat_val _ (by omega), fr]
  exact (EReal.coe_sub _ _).symm

/-! The reference's operations, read at one index of one array. -/

/-- The taps' places. -/
theorem tap_read (p : Fin 3) :
    (addf (broadcastInDim S3 ![] bcast_S_S3 (constant S_ .f32 0xBF800000#32)) (sitofp .f32 (iotaInDim S3 32 0)) : FVec Ideal S3 .f32) (ix1 p) = ((((p : ℤ) - 1 : ℤ) : ℝ) : EReal) := by
  pointwise
  refine (congrArg₂ (· + ·) neg_one_word (nat_val p (by omega))).trans ?_
  exact (EReal.coe_add _ _).symm.trans (congrArg _ (by push_cast; ring))

/-- The moved taps: the reference's sum of tap and scaled offset. -/
theorem pt_read (G : FVec Ideal S3 .f32) (X : FVec Ideal S2x224x224x96 .f32) (Wf : FVec Ideal S96x72 .f32) (bf : FVec Ideal S72 .f32)
    (d : Fin 2) (z : ℤ) (o r : ℝ)
    (hG : ∀ e, e = (if (d : ℕ) < 1 then (⟨k / 3, by omega⟩ : Fin 3) else ⟨k % 3, by omega⟩) → G (ix1 e) = ((z : ℝ) : EReal))
    (hX : (∑ x, X (ix4 b n w x) * Wf (ix2 x ⟨g * 18 + k * 2 + d, by omega⟩)) + bf (ix1 ⟨g * 18 + k * 2 + d, by omega⟩) = (o : EReal))
    (hr : o * sc + (z : ℝ) = r) :
    (addf (broadcastInDim S2x224x224x4x9x2 ![0, 1, 2, 3, 4, 5] bcast_S1x1x1x1x9x2_S2x224x224x4x9x2_0_1_2_3_4_5 (shapeCast S1x1x1x1x9x2 (concatenate S3x3x2 2 [⟨S3x3x1, (broadcastInDim S3x3x1 ![0, 1] bcast_S3x3_S3x3x1_0_1 (broadcastInDim S3x3 ![0] bcast_S3_S3x3_0 G))⟩, ⟨S3x3x1, (broadcastInDim S3x3x1 ![0, 1] bcast_S3x3_S3x3x1_0_1 (broadcastInDim S3x3 ![1] bcast_S3_S3x3_1 G))⟩] concatenates_S3x3x1_S3x3x1_S3x3x2_d2) shapeCasts_S3x3x2_S1x1x1x1x9x2)) (mulf (shapeCast S2x224x224x4x9x2 (addf (Host.dotGeneral dot_S2x224x224x96_S96x72_S2x224x224x72_3_0_012_1_n_n none X Wf) (broadcastInDim S2x224x224x72 ![0, 1, 2, 3] bcast_S1x1x1x72_S2x224x224x72_0_1_2_3 (broadcastInDim S1x1x1x72 ![3] bcast_S72_S1x1x1x72_3 bf))) shapeCasts_S2x224x224x72_S2x224x224x4x9x2) (broadcastInDim S2x224x224x4x9x2 ![] bcast_S_S2x224x224x4x9x2 (constant S_ .f32 0x3DCCCCCD#32))) : FVec Ideal S2x224x224x4x9x2 .f32) (ix6 b n w g k d) = (r : EReal) := by
  pointwise
  refine pt_val _ _ _ z o r ?_ hX sc_word hr
  by_cases hd : (d : ℕ) < 1
  · rw [dif_pos hd]; exact hG _ (if_pos hd).symm
  · rw [dif_neg hd]; exact hG _ (if_neg hd).symm

/-- The clamped row position. -/
theorem posY_read (a : FVec Ideal S2x224x224x4x9x2 .f32) (p : ℝ) (h : a (ix6 b n w g k 0) = (p : EReal)) :
    (minimumf (broadcastInDim S2x224x224x4x9 ![] bcast_S_S2x224x224x4x9 (sitofp .f32 (constantI S_ 32 223#32))) (maximumf (broadcastInDim S2x224x224x4x9 ![] bcast_S_S2x224x224x4x9 (id (constant S_ .f32 0x00000000#32))) (addf (shapeCast S2x224x224x4x9 (extractStridedSlice S2x224x224x4x9x1 ![0, 0, 0, 0, 0, 0] a slices_S2x224x224x4x9x2_S2x224x224x4x9x1_0_0_0_0_0_0) shapeCasts_S2x224x224x4x9x1_S2x224x224x4x9) (broadcastInDim S2x224x224x4x9 ![0, 1, 2, 3, 4] bcast_S1x224x1x1x1_S2x224x224x4x9_0_1_2_3_4 (shapeCast S1x224x1x1x1 (sitofp .f32 (iotaInDim S224 32 0)) shapeCasts_S224_S1x224x1x1x1)))) : FVec Ideal S2x224x224x4x9 .f32) (ix5 b n w g k) = (pos p n : EReal) := by
  pointwise
  exact pos_val _ _ _ n n.isLt zero_word h

/-- The clamped column position. -/
theorem posX_read (a : FVec Ideal S2x224x224x4x9x2 .f32) (p : ℝ) (h : a (ix6 b n w g k 1) = (p : EReal)) :
    (minimumf (broadcastInDim S2x224x224x4x9 ![] bcast_S_S2x224x224x4x9 (sitofp .f32 (constantI S_ 32 223#32))) (maximumf (broadcastInDim S2x224x224x4x9 ![] bcast_S_S2x224x224x4x9 (id (constant S_ .f32 0x00000000#32))) (addf (shapeCast S2x224x224x4x9 (extractStridedSlice S2x224x224x4x9x1 ![0, 0, 0, 0, 0, 1] a slices_S2x224x224x4x9x2_S2x224x224x4x9x1_0_0_0_0_0_1) shapeCasts_S2x224x224x4x9x1_S2x224x224x4x9) (broadcastInDim S2x224x224x4x9 ![0, 1, 2, 3, 4] bcast_S1x1x224x1x1_S2x224x224x4x9_0_1_2_3_4 (shapeCast S1x1x224x1x1 (sitofp .f32 (iotaInDim S224 32 0)) shapeCasts_S224_S1x1x224x1x1)))) : FVec Ideal S2x224x224x4x9 .f32) (ix5 b n w g k) = (pos p w : EReal) := by
  pointwise
  exact pos_val _ _ _ w w.isLt zero_word h

/-- The place at or below a position, as a word. -/
theorem lo_read (a : FVec Ideal S2x224x224x4x9 .f32) (p : ℝ) (m : ℕ) (h : a (ix5 b n w g k) = (pos p m : EReal)) :
    (minsi (broadcastInDim S2x224x224x4x9 ![] bcast_S_S2x224x224x4x9 (id (constantI S_ 32 223#32))) (maxsi (broadcastInDim S2x224x224x4x9 ![] bcast_S_S2x224x224x4x9 (id (constantI S_ 32 0#32))) (fptosi 32 (Host.floor a))) : IVec S2x224x224x4x9 32) (ix5 b n w g k) = BitVec.ofNat 32 (lo p m) := by
  pointwise
  exact lo_val _ _ _ h

/-- The place after it, as a word. -/
theorem up_read (a : IVec S2x224x224x4x9 32) (p : ℝ) (m : ℕ) (h : a (ix5 b n w g k) = BitVec.ofNat 32 (lo p m)) :
    (minsi (broadcastInDim S2x224x224x4x9 ![] bcast_S_S2x224x224x4x9 (id (constantI S_ 32 223#32))) (maxsi (broadcastInDim S2x224x224x4x9 ![] bcast_S_S2x224x224x4x9 (id (constantI S_ 32 0#32))) (addi a (broadcastInDim S2x224x224x4x9 ![] bcast_S_S2x224x224x4x9 (constantI S_ 32 1#32)))) : IVec S2x224x224x4x9 32) (ix5 b n w g k) = BitVec.ofNat 32 (up p m) := by
  pointwise [h]
  exact next_word _ (lo_le _ _)

/-- A position's fractional part. -/
theorem fr_read (a : FVec Ideal S2x224x224x4x9 .f32) (a' : IVec S2x224x224x4x9 32) (p : ℝ) (m : ℕ) (h : a (ix5 b n w g k) = (pos p m : EReal))
    (h' : a' (ix5 b n w g k) = BitVec.ofNat 32 (lo p m)) :
    (subf a (sitofp .f32 a') : FVec Ideal S2x224x224x4x9 .f32) (ix5 b n w g k) = (fr p m : EReal) := by
  pointwise
  exact fr_val _ _ _ _ h h'

end

end Dcn.Reference

end
-- ==== Proof.RPts.lean ====
module

public import proofs.«01_k».proof.Proof.RRead

@[expose] public section

set_option maxRecDepth 16384

/-! The reference's sample points: coordinates, image places around them and fractional parts. -/

noncomputable section

open Idealize.ShloMosaic Idealize.ShloMosaic.TcCoe Idealize.SL.Sem

namespace Dcn.Reference
open Cert.ReferenceIdeal Cert.ReferenceIdeal.Gen Cert.ReferenceIdeal.Value

variable (V0 : Valuation τ sig (Elt Ideal))

section
variable (b : Fin 2) (n w : Fin 224) (g : Fin 4) (k : Fin 9)

/-- The reference's taps sit at -1, 0 and 1. -/
theorem tap_at (p : Fin 3) : res_main_v110 V0 (ix1 p) = ((((p : ℤ) - 1 : ℤ) : ℝ) : EReal) := by
  unfold res_main_v110
  exact tap_read p

/-- The moved tap's row coordinate. -/
theorem ptY_at (hg : (args V0).Good) : res_main_v122 V0 (ix6 b n w g k 0) = (ptY ((args V0).oy b n w g k) k : EReal) := by
  have h := hg.off b n w ⟨g * 18 + k * 2 + 0, by omega⟩
  unfold res_main_v122
  refine pt_read b n w g k _ _ _ _ 0 ((k : ℤ) / 3 - 1) _ _ (fun e he => ?_) (Eq.trans ?_ h) rfl
  · subst he; exact tap_at V0 _
  · exact congrArg (· + _) (Finset.sum_congr rfl fun x _ => congrArg (· * _) (feat_at V0 b n w x))

/-- The moved tap's column coordinate. -/
theorem ptX_at (hg : (args V0).Good) : res_main_v122 V0 (ix6 b n w g k 1) = (ptX ((args V0).ox b n w g k) k : EReal) := by
  have h := hg.off b n w ⟨g * 18 + k * 2 + 1, by omega⟩
  unfold res_main_v122
  refine pt_read b n w g k _ _ _ _ 1 ((k : ℤ) % 3 - 1) _ _ (fun e he => ?_) (Eq.trans ?_ h) rfl
  · subst he; exact tap_at V0 _
  · exact congrArg (· + _) (Finset.sum_congr rfl fun x _ => congrArg (· * _) (feat_at V0 b n w x))

/-- The clamped row position of a moved tap. -/
theorem posY_at (hg : (args V0).Good) : res_main_v127 V0 (ix5 b n w g k) = (pos (ptY ((args V0).oy b n w g k) k) n : EReal) := by
  unfold res_main_v127
  exact posY_read b n w g k _ _ (ptY_at V0 b n w g k hg)

/-- The clamped column position of a moved tap. -/
theorem posX_at (hg : (args V0).Good) : res_main_v132 V0 (ix5 b n w g k) = (pos (ptX ((args V0).ox b n w g k) k) w : EReal) := by
  unfold res_main_v132
  exact posX_read b n w g k _ _ (ptX_at V0 b n w g k hg)

/-- The image place at or below the row position. -/
theorem loY_at (hg : (args V0).Good) : res_main_v140 V0 (ix5 b n w g k) = BitVec.ofNat 32 (lo (ptY ((args V0).oy b n w g k) k) n) := by
  unfold res_main_v140
  exact lo_read b n w g k _ _ _ (posY_at V0 b n w g k hg)

/-- The image place at or below the column position. -/
theorem loX_at (hg : (args V0).Good) : res_main_v143 V0 (ix5 b n w g k) = BitVec.ofNat 32 (lo (ptX ((args V0).ox b n w g k) k) w) := by
  unfold res_main_v143
  exact lo_read b n w g k _ _ _ (posX_at V0 b n w g k hg)

/-- The next image place, held inside the image. -/
theorem upY_at (hg : (args V0).Good) : res_main_v146 V0 (ix5 b n w g k) = BitVec.ofNat 32 (up (ptY ((args V0).oy b n w g k) k) n) := by
  unfold res_main_v146
  exact up_read b n w g k _ _ _ (loY_at V0 b n w g k hg)

/-- The next image place, held inside the image. -/
theorem upX_at (hg : (args V0).Good) : res_main_v149 V0 (ix5 b n w g k) = BitVec.ofNat 32 (up (ptX ((args V0).ox b n w g k) k) w) := by
  unfold res_main_v149
  exact up_read b n w g k _ _ _ (loX_at V0 b n w g k hg)

/-- The fractional part of the row position. -/
theorem frY_at (hg : (args V0).Good) : res_main_v151 V0 (ix5 b n w g k) = (fr (ptY ((args V0).oy b n w g k) k) n : EReal) := by
  unfold res_main_v151
  exact fr_read b n w g k _ _ _ _ (posY_at V0 b n w g k hg) (loY_at V0 b n w g k hg)

/-- The fractional part of the column position. -/
theorem frX_at (hg : (args V0).Good) : res_main_v153 V0 (ix5 b n w g k) = (fr (ptX ((args V0).ox b n w g k) k) w : EReal) := by
  unfold res_main_v153
  exact fr_read b n w g k _ _ _ _ (posX_at V0 b n w g k hg) (loX_at V0 b n w g k hg)

end

end Dcn.Reference

end
-- ==== Proof.RGather.lean ====
module

public import proofs.«01_k».proof.Proof.RConv

@[expose] public section

set_option maxRecDepth 16384

/-! Which component of a start index the reference's gather reads. -/

noncomputable section

open Idealize.ShloMosaic Idealize.ShloMosaic.TcCoe Idealize.SL.Sem

namespace Dcn.Reference
open Cert.ReferenceIdeal Cert.ReferenceIdeal.Gen Cert.ReferenceIdeal.Value

/-- The gather's axes: batch, row, column and group come from the start index, the channel is copied whole. -/
abbrev gd := gather_S2x224x224x4x24_S2x224x224x4x9x4_S2x224x224x4x9x24_5_0123_n_n_0123_5_111124

/-- Which component of a start index the gather reads. -/
theorem si_at (j : S2x224x224x4x9x24.Idx) (p : Fin 4) :
    GatherDims.siIdx gd j p = ix6 (j 0) (j 1) (j 2) (j 3) (j 4) p := by
  funext a
  match a with
  | ⟨0, _⟩ => rfl
  | ⟨1, _⟩ => rfl
  | ⟨2, _⟩ => rfl
  | ⟨3, _⟩ => rfl
  | ⟨4, _⟩ => rfl
  | ⟨5, _⟩ => rfl

end Dcn.Reference

end
-- ==== Proof.RGatherAt.lean ====
module

public import proofs.«01_k».proof.Proof.RGather

@[expose] public section

set_option maxRecDepth 16384

/-! The reference's gather of one channel group at a batch, row, column and group index. -/

noncomputable section

open Idealize.ShloMosaic Idealize.ShloMosaic.TcCoe Idealize.SL.Sem

namespace Dcn.Reference
open Cert.ReferenceIdeal Cert.ReferenceIdeal.Gen Cert.ReferenceIdeal.Value

/-- A natural number below `2 ^ 31` as a word, read signed. -/
theorem toNat_word (n : ℕ) (h : n < 2147483648) : (BitVec.ofNat 32 n).toInt.toNat = n := by
  rw [BitVec.toInt_eq_toNat_of_lt] <;> rw [BitVec.toNat_ofNat] <;> omega

/-- Where a start index holds an image place, the gather starts there, up to its clamp. -/
theorem start_at (j : S2x224x224x4x9x24.Idx) (idx : IVec S2x224x224x4x9x4 32) (p : Fin 4) (n : ℕ)
    (h : idx (ix6 (j 0) (j 1) (j 2) (j 3) (j 4) p) = BitVec.ofNat 32 n) (hn : n < 224) (a : Fin 5)
    (ha : a = p.castSucc) :
    GatherDims.start gd j idx a = min n ((S2x224x224x4x24).size a - GatherDims.sliceSizes gd a) := by
  subst ha
  have hm : p.castSucc ∈ GatherDims.startIndexMap gd := (by decide : ∀ q : Fin 4, q.castSucc ∈ ([0, 1, 2, 3] : List (Fin 5))) p
  unfold GatherDims.start
  rw [dif_pos hm]
  have hp : (⟨(GatherDims.startIndexMap gd).idxOf p.castSucc, List.idxOf_lt_length_iff.2 hm⟩ :
      Fin (GatherDims.startIndexMap gd).length) = p :=
    Fin.ext ((by decide : ∀ q : Fin 4, ([0, 1, 2, 3] : List (Fin 5)).idxOf q.castSucc = q.val) p)
  refine congrArg (min · _) ?_
  refine (congrArg (fun v : BitVec 32 => v.toInt.toNat) ((congrArg idx ?_).trans h)).trans (toNat_word n (by omega))
  exact (congrArg (GatherDims.siIdx gd j) hp).trans (si_at j p)

/-- The axes a start index names have no offset. -/
theorem off_at (j : S2x224x224x4x9x24.Idx) (a : Fin 5) (ha : a ∈ ([0, 1, 2, 3] : List (Fin 5))) :
    GatherDims.offCoord gd j a = 0 :=
  GatherDims.offCoord_eq_zero gd j a fun h => ((GatherDims.mem_sKept gd a).1 h).1 ha

/-- The gather has no batching axis. -/
theorem batch_at (j : S2x224x224x4x9x24.Idx) (a : Fin 5) : GatherDims.batchCoord gd j a = 0 :=
  GatherDims.batchCoord_eq_zero gd j a List.not_mem_nil

/-- THE GATHER: where the start index holds batch `b'`, row `n'`, column `w'` and group `g'`, the result is the
    operand there. -/
theorem gather_at {α : Type} (x : S2x224x224x4x24.Idx → α) (idx : IVec S2x224x224x4x9x4 32) (b : Fin 2) (n w : Fin 224)
    (g : Fin 4) (k : Fin 9) (j : Fin 24) (b' : Fin 2) (n' w' : Fin 224) (g' : Fin 4)
    (h0 : idx (ix6 b n w g k (0 : Fin 4)) = BitVec.ofNat 32 b')
    (h1 : idx (ix6 b n w g k (1 : Fin 4)) = BitVec.ofNat 32 n')
    (h2 : idx (ix6 b n w g k (2 : Fin 4)) = BitVec.ofNat 32 w')
    (h3 : idx (ix6 b n w g k (3 : Fin 4)) = BitVec.ofNat 32 g') :
    Host.gather gd x idx (ix6 b n w g k j) = x (ix5 b' n' w' g' j) := by
  unfold Host.gather
  refine congrArg x (funext fun a => Fin.ext ?_)
  show GatherDims.start gd (ix6 b n w g k j) idx a + GatherDims.batchCoord gd (ix6 b n w g k j) a
    + GatherDims.offCoord gd (ix6 b n w g k j) a = _
  rw [batch_at]
  match a with
  | ⟨0, _⟩ =>
    refine (congrArg₂ (· + 0 + ·) (start_at (ix6 b n w g k j) idx 0 b' h0 (by omega) _ rfl) (off_at _ _ (by simp))).trans ?_
    show min (b' : ℕ) (2 - 1) + 0 + 0 = b'
    omega
  | ⟨1, _⟩ =>
    refine (congrArg₂ (· + 0 + ·) (start_at (ix6 b n w g k j) idx 1 n' h1 (by omega) _ rfl) (off_at _ _ (by simp))).trans ?_
    show min (n' : ℕ) (224 - 1) + 0 + 0 = n'
    omega
  | ⟨2, _⟩ =>
    refine (congrArg₂ (· + 0 + ·) (start_at (ix6 b n w g k j) idx 2 w' h2 (by omega) _ rfl) (off_at _ _ (by simp))).trans ?_
    show min (w' : ℕ) (224 - 1) + 0 + 0 = w'
    omega
  | ⟨3, _⟩ =>
    refine (congrArg₂ (· + 0 + ·) (start_at (ix6 b n w g k j) idx 3 g' h3 (by omega) _ rfl) (off_at _ _ (by simp))).trans ?_
    show min (g' : ℕ) (4 - 1) + 0 + 0 = g'
    omega
  | ⟨4, _⟩ =>
    have hs : GatherDims.start gd (ix6 b n w g k j) idx (⟨4, by decide⟩ : Fin 5) = 0 := by
      unfold GatherDims.start
      exact dif_neg (by decide : (⟨4, by decide⟩ : Fin 5) ∉ ([0, 1, 2, 3] : List (Fin 5)))
    have ho : GatherDims.offCoord gd (ix6 b n w g k j) (⟨4, by decide⟩ : Fin 5) = j := by
      have hk : (⟨4, by decide⟩ : Fin 5) ∈ GatherDims.sKept gd :=
        (GatherDims.mem_sKept gd _).2 ⟨(by decide : (⟨4, by decide⟩ : Fin 5) ∉ ([0, 1, 2, 3] : List (Fin 5))), List.not_mem_nil⟩
      unfold GatherDims.offCoord
      rw [dif_pos hk]
      have e : ∀ q : Fin 6, q = 5 → ((ix6 b n w g k j : S2x224x224x4x9x24.Idx) q).val = j.val := by
        rintro q rfl; rfl
      exact e _ (List.mem_singleton.1 (List.getElem_mem (l := ([5] : List (Fin 6))) _))
    rw [hs, ho]
    show 0 + 0 + (j : ℕ) = j
    omega

end Dcn.Reference

end
-- ==== Proof.RSum.lean ====
module

public import proofs.«01_k».proof.Proof.RPts
public import proofs.«01_k».proof.Proof.RGatherAt

@[expose] public section

set_option maxRecDepth 16384

/-! The reference's bilinear samples: its start indices, its four gathers and their weighted sum. -/

noncomputable section

open Idealize.ShloMosaic Idealize.ShloMosaic.TcCoe Idealize.SL.Sem

namespace Dcn.Reference
open Cert.ReferenceIdeal Cert.ReferenceIdeal.Gen Cert.ReferenceIdeal.Value

variable (V0 : Valuation τ sig (Elt Ideal))

/-- A small number is not negative, so the index is not counted from the end. -/
theorem wrap_val (x n : BitVec 32) (m : ℕ) (hm : m < 224) (h : x = BitVec.ofNat 32 m) :
    Scalar.select (IntOp.cmpi CmpIPredicate.slt x 0#32) (IntOp.addi x n) x = BitVec.ofNat 32 m := by
  have h0 : ¬ (BitVec.ofNat 32 m).slt 0#32 := by
    rw [BitVec.slt, BitVec.toInt_eq_toNat_of_lt (by rw [BitVec.toNat_ofNat]; omega)]
    simp
    exact Int.emod_nonneg _ (by norm_num)
  subst h
  simp [Scalar.select, IntOp.cmpi, h0]

/-- The start indices: batch, row, column and group, negative ones counted from the end. -/
def idx (B : IVec S2x1x1x1x1 32) (P Q : IVec S2x224x224x4x9 32) (G : IVec S1x1x1x4x1 32) : IVec S2x224x224x4x9x4 32 :=
  (concatenate S2x224x224x4x9x4 5 [⟨S2x224x224x4x9x1, ((broadcastInDim S2x224x224x4x9x1 ![0, 1, 2, 3, 4] bcast_S2x224x224x4x9_S2x224x224x4x9x1_0_1_2_3_4 (broadcastInDim S2x224x224x4x9 ![0, 1, 2, 3, 4] bcast_S2x1x1x1x1_S2x224x224x4x9_0_1_2_3_4 (select (cmpi .slt B (broadcastInDim S2x1x1x1x1 ![] bcast_S_S2x1x1x1x1 (constantI S_ 32 0#32))) (addi B (broadcastInDim S2x1x1x1x1 ![] bcast_S_S2x1x1x1x1 (constantI S_ 32 2#32))) B))) : IVec S2x224x224x4x9x1 32)⟩, ⟨S2x224x224x4x9x1, ((broadcastInDim S2x224x224x4x9x1 ![0, 1, 2, 3, 4] bcast_S2x224x224x4x9_S2x224x224x4x9x1_0_1_2_3_4 (select (cmpi .slt P (broadcastInDim S2x224x224x4x9 ![] bcast_S_S2x224x224x4x9 (constantI S_ 32 0#32))) (addi P (broadcastInDim S2x224x224x4x9 ![] bcast_S_S2x224x224x4x9 (constantI S_ 32 224#32))) P)) : IVec S2x224x224x4x9x1 32)⟩, ⟨S2x224x224x4x9x1, ((broadcastInDim S2x224x224x4x9x1 ![0, 1, 2, 3, 4] bcast_S2x224x224x4x9_S2x224x224x4x9x1_0_1_2_3_4 (select (cmpi .slt Q (broadcastInDim S2x224x224x4x9 ![] bcast_S_S2x224x224x4x9 (constantI S_ 32 0#32))) (addi Q (broadcastInDim S2x224x224x4x9 ![] bcast_S_S2x224x224x4x9 (constantI S_ 32 224#32))) Q)) : IVec S2x224x224x4x9x1 32)⟩, ⟨S2x224x224x4x9x1, ((broadcastInDim S2x224x224x4x9x1 ![0, 1, 2, 3, 4] bcast_S2x224x224x4x9_S2x224x224x4x9x1_0_1_2_3_4 (broadcastInDim S2x224x224x4x9 ![0, 1, 2, 3, 4] bcast_S1x1x1x4x1_S2x224x224x4x9_0_1_2_3_4 (select (cmpi .slt G (broadcastInDim S1x1x1x4x1 ![] bcast_S_S1x1x1x4x1 (constantI S_ 32 0#32))) (addi G (broadcastInDim S1x1x1x4x1 ![] bcast_S_S1x1x1x4x1 (constantI S_ 32 4#32))) G))) : IVec S2x224x224x4x9x1 32)⟩] concatenates_S2x224x224x4x9x1_S2x224x224x4x9x1_S2x224x224x4x9x1_S2x224x224x4x9x1_S2x224x224x4x9x4_d5 : IVec S2x224x224x4x9x4 32)

section
variable (b : Fin 2) (n w : Fin 224) (g : Fin 4) (k : Fin 9) (j : Fin 24)
  (B : IVec S2x1x1x1x1 32) (P Q : IVec S2x224x224x4x9 32) (G : IVec S1x1x1x4x1 32)

/-- The batch entry of a start index is the given one where that is not negative. -/
theorem idx0_read (m : ℕ) (hm : m < 224) (h : B (ix5 b 0 0 0 0) = BitVec.ofNat 32 m) :
    idx B P Q G (ix6 b n w g k (0 : Fin 4)) = BitVec.ofNat 32 m := by
  unfold idx
  pointwise
  exact wrap_val _ _ m hm h

/-- The row entry of a start index is the given one where that is not negative. -/
theorem idx1_read (m : ℕ) (hm : m < 224) (h : P (ix5 b n w g k) = BitVec.ofNat 32 m) :
    idx B P Q G (ix6 b n w g k (1 : Fin 4)) = BitVec.ofNat 32 m := by
  unfold idx
  pointwise
  exact wrap_val _ _ m hm h

/-- The column entry of a start index is the given one where that is not negative. -/
theorem idx2_read (m : ℕ) (hm : m < 224) (h : Q (ix5 b n w g k) = BitVec.ofNat 32 m) :
    idx B P Q G (ix6 b n w g k (2 : Fin 4)) = BitVec.ofNat 32 m := by
  unfold idx
  pointwise
  exact wrap_val _ _ m hm h

/-- The group entry of a start index is the given one where that is not negative. -/
theorem idx3_read (m : ℕ) (hm : m < 224) (h : G (ix5 0 0 0 g 0) = BitVec.ofNat 32 m) :
    idx B P Q G (ix6 b n w g k (3 : Fin 4)) = BitVec.ofNat 32 m := by
  unfold idx
  pointwise
  exact wrap_val _ _ m hm h

/-- The first two corners' sum. -/
theorem two_read (T1 T2 : FVec Ideal S2x224x224x4x9x24 .f32) (fy fx : FVec Ideal S2x224x224x4x9 .f32) :
    (addf (mulf T1 (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (mulf (subf (broadcastInDim S2x224x224x4x9 ![] bcast_S_S2x224x224x4x9 (constant S_ .f32 0x3F800000#32)) fy) (subf (broadcastInDim S2x224x224x4x9 ![] bcast_S_S2x224x224x4x9 (constant S_ .f32 0x3F800000#32)) fx))))) (mulf T2 (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (mulf (subf (broadcastInDim S2x224x224x4x9 ![] bcast_S_S2x224x224x4x9 (constant S_ .f32 0x3F800000#32)) fy) fx)))) : FVec Ideal S2x224x224x4x9x24 .f32) (ix6 b n w g k j)
      = (T1 (ix6 b n w g k j) * ((1 - fy (ix5 b n w g k)) * (1 - fx (ix5 b n w g k)))
        + T2 (ix6 b n w g k j) * ((1 - fy (ix5 b n w g k)) * fx (ix5 b n w g k)) : EReal) := by
  pointwise

/-- The other two corners, added to the first two. -/
theorem four_read (T T1 T2 : FVec Ideal S2x224x224x4x9x24 .f32) (fy fx : FVec Ideal S2x224x224x4x9 .f32) :
    (addf (addf T (mulf T1 (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (mulf fy (subf (broadcastInDim S2x224x224x4x9 ![] bcast_S_S2x224x224x4x9 (constant S_ .f32 0x3F800000#32)) fx)))))) (mulf T2 (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (mulf fy fx)))) : FVec Ideal S2x224x224x4x9x24 .f32) (ix6 b n w g k j)
      = (T (ix6 b n w g k j) + T1 (ix6 b n w g k j) * (fy (ix5 b n w g k) * (1 - fx (ix5 b n w g k)))
        + T2 (ix6 b n w g k j) * (fy (ix5 b n w g k) * fx (ix5 b n w g k)) : EReal) := by
  pointwise

/-- The batch's numbers. -/
theorem batchNo_at : res_main_v135 V0 (ix5 b 0 0 0 0) = BitVec.ofNat 32 b := by
  unfold res_main_v135
  pointwise

/-- The groups' numbers. -/
theorem groupNo_at : res_main_v137 V0 (ix5 0 0 0 g 0) = BitVec.ofNat 32 g := by
  unfold res_main_v137
  pointwise

/-- The gathered value at given row and column numbers. -/
theorem corner_at (P Q : IVec S2x224x224x4x9 32) (y z : ℕ) (hy : y < 224) (hz : z < 224)
    (hP : P (ix5 b n w g k) = BitVec.ofNat 32 y) (hQ : Q (ix5 b n w g k) = BitVec.ofNat 32 z) :
    (Host.gather gd (res_main_v133 V0) (idx (res_main_v135 V0) P Q (res_main_v137 V0)) : FVec Ideal S2x224x224x4x9x24 .f32)
        (ix6 b n w g k j)
      = (args V0).proj b y z ⟨g * 24 + j, by omega⟩ :=
  (gather_at (α := EReal) (res_main_v133 V0) _ b n w g k j b ⟨y, hy⟩ ⟨z, hz⟩ g
    (idx0_read b n w g k _ _ _ _ b (by omega) (batchNo_at V0 b))
    (idx1_read b n w g k _ _ _ _ y hy hP)
    (idx2_read b n w g k _ _ _ _ z hz hQ)
    (idx3_read b n w g k _ _ _ _ g (by omega) (groupNo_at V0 g))).trans
  (proj_at V0 b ⟨y, hy⟩ ⟨z, hz⟩ g j)

/-- One corner's gathered value. -/
theorem corner_lo_lo (hg : (args V0).Good) :
    (Host.gather gd (res_main_v133 V0) (idx (res_main_v135 V0) (res_main_v140 V0) (res_main_v143 V0) (res_main_v137 V0)) : FVec Ideal S2x224x224x4x9x24 .f32)
        (ix6 b n w g k j)
      = (args V0).proj b (lo (ptY ((args V0).oy b n w g k) k) n) (lo (ptX ((args V0).ox b n w g k) k) w) ⟨g * 24 + j, by omega⟩ :=
  corner_at V0 b n w g k j _ _ _ _ (lt_of_le_of_lt (lo_le _ _) (by omega)) (lt_of_le_of_lt (lo_le _ _) (by omega))
    (loY_at V0 b n w g k hg) (loX_at V0 b n w g k hg)

/-- One corner's gathered value. -/
theorem corner_lo_up (hg : (args V0).Good) :
    (Host.gather gd (res_main_v133 V0) (idx (res_main_v135 V0) (res_main_v140 V0) (res_main_v149 V0) (res_main_v137 V0)) : FVec Ideal S2x224x224x4x9x24 .f32)
        (ix6 b n w g k j)
      = (args V0).proj b (lo (ptY ((args V0).oy b n w g k) k) n) (up (ptX ((args V0).ox b n w g k) k) w) ⟨g * 24 + j, by omega⟩ :=
  corner_at V0 b n w g k j _ _ _ _ (lt_of_le_of_lt (lo_le _ _) (by omega)) (lt_of_le_of_lt (up_le _ _) (by omega))
    (loY_at V0 b n w g k hg) (upX_at V0 b n w g k hg)

/-- One corner's gathered value. -/
theorem corner_up_lo (hg : (args V0).Good) :
    (Host.gather gd (res_main_v133 V0) (idx (res_main_v135 V0) (res_main_v146 V0) (res_main_v143 V0) (res_main_v137 V0)) : FVec Ideal S2x224x224x4x9x24 .f32)
        (ix6 b n w g k j)
      = (args V0).proj b (up (ptY ((args V0).oy b n w g k) k) n) (lo (ptX ((args V0).ox b n w g k) k) w) ⟨g * 24 + j, by omega⟩ :=
  corner_at V0 b n w g k j _ _ _ _ (lt_of_le_of_lt (up_le _ _) (by omega)) (lt_of_le_of_lt (lo_le _ _) (by omega))
    (upY_at V0 b n w g k hg) (loX_at V0 b n w g k hg)

/-- One corner's gathered value. -/
theorem corner_up_up (hg : (args V0).Good) :
    (Host.gather gd (res_main_v133 V0) (idx (res_main_v135 V0) (res_main_v146 V0) (res_main_v149 V0) (res_main_v137 V0)) : FVec Ideal S2x224x224x4x9x24 .f32)
        (ix6 b n w g k j)
      = (args V0).proj b (up (ptY ((args V0).oy b n w g k) k) n) (up (ptX ((args V0).ox b n w g k) k) w) ⟨g * 24 + j, by omega⟩ :=
  corner_at V0 b n w g k j _ _ _ _ (lt_of_le_of_lt (up_le _ _) (by omega)) (lt_of_le_of_lt (up_le _ _) (by omega))
    (upY_at V0 b n w g k hg) (upX_at V0 b n w g k hg)

/-- Real weights and their complements, multiplied as extended reals. -/
theorem weight (a b : EReal) (p q : ℝ) (ha : a = (p : EReal)) (hb : b = (q : EReal)) :
    (1 - a) * (1 - b) = (((1 - p) * (1 - q) : ℝ) : EReal) ∧ (1 - a) * b = (((1 - p) * q : ℝ) : EReal)
      ∧ a * (1 - b) = ((p * (1 - q) : ℝ) : EReal) ∧ a * b = ((p * q : ℝ) : EReal) := by
  subst ha hb
  refine ⟨?_, ?_, ?_, ?_⟩ <;> push_cast <;> rfl

/-- The reference's bilinear sample. -/
theorem bil_at (hg : (args V0).Good) : res_main_v292 V0 (ix6 b n w g k j)
    = bil (fun h' w' => (args V0).proj b h' w' ⟨g * 24 + j, by omega⟩) (ptY ((args V0).oy b n w g k) k) (ptX ((args V0).ox b n w g k) k) n w := by
  obtain ⟨h1, h2, h3, h4⟩ := weight _ _ _ _ (frY_at V0 b n w g k hg) (frX_at V0 b n w g k hg)
  have h : res_main_v284 V0 (ix6 b n w g k j) = _ :=
    two_read b n w g k j (Host.gather gd (res_main_v133 V0) (idx (res_main_v135 V0) (res_main_v140 V0) (res_main_v143 V0) (res_main_v137 V0)))
      (Host.gather gd (res_main_v133 V0) (idx (res_main_v135 V0) (res_main_v140 V0) (res_main_v149 V0) (res_main_v137 V0)))
      (res_main_v151 V0) (res_main_v153 V0)
  have h' := (four_read b n w g k j (res_main_v284 V0)
      (Host.gather gd (res_main_v133 V0) (idx (res_main_v135 V0) (res_main_v146 V0) (res_main_v143 V0) (res_main_v137 V0)))
      (Host.gather gd (res_main_v133 V0) (idx (res_main_v135 V0) (res_main_v146 V0) (res_main_v149 V0) (res_main_v137 V0)))
      (res_main_v151 V0) (res_main_v153 V0))
  refine Eq.trans h' ?_
  unfold bil
  refine congrArg₂ (· + ·) (congrArg₂ (· + ·) (h.trans (congrArg₂ (· + ·) ?_ ?_)) ?_) ?_
  · exact congrArg₂ (· * ·) (corner_lo_lo V0 b n w g k j hg) h1
  · exact congrArg₂ (· * ·) (corner_lo_up V0 b n w g k j hg) h2
  · exact congrArg₂ (· * ·) (corner_up_lo V0 b n w g k j hg) h3
  · exact congrArg₂ (· * ·) (corner_up_up V0 b n w g k j hg) h4

end

end Dcn.Reference

end
-- ==== Proof.ROut.lean ====
module

public import proofs.«01_k».proof.Proof.RSoft
public import proofs.«01_k».proof.Proof.RSum

@[expose] public section

set_option maxRecDepth 16384

/-! The reference's result: the weighted samples, summed over the nine points and taken through the output projection. -/

noncomputable section

open Idealize.ShloMosaic Idealize.ShloMosaic.TcCoe Idealize.SL.Sem

namespace Dcn.Reference
open Cert.ReferenceIdeal Cert.ReferenceIdeal.Gen Cert.ReferenceIdeal.Value

variable (V0 : Valuation τ sig (Elt Ideal))

section
variable (b : Fin 2) (n w : Fin 224)

/-- The nine points' sum. -/
theorem points_read (g : Fin 4) (j : Fin 24) (S : FVec Ideal S2x224x224x4x9x24 .f32) (U : FVec Ideal S2x224x224x4x9 .f32) :
    (Host.reduceAdd (mulf S (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 U))) (constant S_ .f32 0x00000000#32) reducesTo_S2x224x224x4x9x24_S2x224x224x4x24_d4 h_S_ : FVec Ideal S2x224x224x4x24 .f32) (ix5 b n w g j)
      = ∑ k : Fin 9, (S (ix6 b n w g k j) * U (ix5 b n w g k) : EReal) := by
  have hl : ∀ k : Fin 9, (show Shape.Reduces S2x224x224x4x9x24 [4] S2x224x224x4x24 by decide).lift (ix5 b n w g j) k
      = ix6 b n w g k j := fun k => by
    funext a; match a with | 0 => rfl | 1 => rfl | 2 => rfl | 3 => rfl | 4 => rfl | 5 => rfl
  refine (ValueIdx.hostReduceAdd_apply _ _ _ _ _).trans ?_
  rw [Ideal.hostReduceAdd_single _ (show Shape.Reduces S2x224x224x4x9x24 [4] S2x224x224x4x24 by decide)]
  refine (congrArg (· + _) (zero_word : _ = (0 : EReal))).trans ((zero_add _).trans ?_)
  refine Finset.sum_congr rfl fun k _ => ?_
  refine (congrArg _ (hl k)).trans ?_
  pointwise

/-- The groups' lanes as channels. -/
theorem lanes_read (c : Fin 96) (R : FVec Ideal S2x224x224x4x24 .f32) :
    (shapeCast S2x224x224x96 R shapeCasts_S2x224x224x4x24_S2x224x224x96 : FVec Ideal S2x224x224x96 .f32) (ix4 b n w c) = R (ix5 b n w ⟨c / 24, by omega⟩ ⟨c % 24, by omega⟩) := by
  pointwise

/-- The output projection. -/
theorem dot_read (c : Fin 96) (Y : FVec Ideal S2x224x224x96 .f32) (Wo : FVec Ideal S96x96 .f32) (bo : FVec Ideal S96 .f32) :
    (addf (Host.dotGeneral dot_S2x224x224x96_S96x96_S2x224x224x96_3_0_012_1_n_n none Y Wo) (broadcastInDim S2x224x224x96 ![0, 1, 2, 3] bcast_S1x1x1x96_S2x224x224x96_0_1_2_3 (broadcastInDim S1x1x1x96 ![3] bcast_S96_S1x1x1x96_3 bo)) : FVec Ideal S2x224x224x96 .f32) (ix4 b n w c)
      = ((∑ k, Y (ix4 b n w k) * Wo (ix2 k c)) + bo (ix1 c) : EReal) := by
  pointwise

/-- One channel of the weighted samples. -/
theorem samp_at (hg : (args V0).Good) (c : Fin 96) :
    (shapeCast S2x224x224x96 (Host.reduceAdd (mulf (res_main_v292 V0) (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (select (cmpf .oeq (res_main_call1_v5 V0) (broadcastInDim S2x224x224x4x9 ![] bcast_S_S2x224x224x4x9 (constant S_ .f32 0xFF800000#32))) (broadcastInDim S2x224x224x4x9 ![] bcast_S_S2x224x224x4x9 (constant S_ .f32 0xFF7FFFFF#32)) (res_main_call1_v5 V0))))) (constant S_ .f32 0x00000000#32) reducesTo_S2x224x224x4x9x24_S2x224x224x4x24_d4 h_S_) shapeCasts_S2x224x224x4x24_S2x224x224x96 : FVec Ideal S2x224x224x96 .f32) (ix4 b n w c)
      = samp ((args V0).proj b) ((args V0).oy b n w) ((args V0).ox b n w) ((args V0).lg b n w) n w c := by
  have hc : (⟨(⟨c / 24, by omega⟩ : Fin 4) * 24 + (⟨c % 24, by omega⟩ : Fin 24), by show c.val / 24 * 24 + c.val % 24 < 96; omega⟩ : Fin 96) = c :=
    Fin.ext (by show c.val / 24 * 24 + c.val % 24 = c.val; omega)
  refine (lanes_read b n w c _).trans ((points_read b n w _ _ _ _).trans ?_)
  unfold samp
  refine Finset.sum_congr rfl fun k _ => congrArg₂ (· * ·) ((bil_at V0 b n w _ k _ hg).trans ?_) ?_
  · exact congrArg (fun c' => bil (fun h' w' => (args V0).proj b h' w' c') (ptY ((args V0).oy b n w (grp c) k) k) (ptX ((args V0).ox b n w (grp c) k) k) n w) hc
  · exact (bot_read b n w _ k (res_main_call1_v5 V0) _ (soft_at V0 b n w _ k hg)).trans (soft_at V0 b n w _ k hg)

/-- The reference's result at one pixel and channel. -/
theorem out_at (hg : (args V0).Good) (c : Fin 96) :
    (addf (Host.dotGeneral (φ₂ := .f32) dot_S2x224x224x96_S96x96_S2x224x224x96_3_0_012_1_n_n none (shapeCast S2x224x224x96 (Host.reduceAdd (mulf (res_main_v292 V0) (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (select (cmpf .oeq (res_main_call1_v5 V0) (broadcastInDim S2x224x224x4x9 ![] bcast_S_S2x224x224x4x9 (constant S_ .f32 0xFF800000#32))) (broadcastInDim S2x224x224x4x9 ![] bcast_S_S2x224x224x4x9 (constant S_ .f32 0xFF7FFFFF#32)) (res_main_call1_v5 V0))))) (constant S_ .f32 0x00000000#32) reducesTo_S2x224x224x4x9x24_S2x224x224x4x24_d4 h_S_) shapeCasts_S2x224x224x4x24_S2x224x224x96) (V0 (Proc.devRef .tc main_arg3) : FVec Ideal S96x96 .f32)) (broadcastInDim S2x224x224x96 ![0, 1, 2, 3] bcast_S1x1x1x96_S2x224x224x96_0_1_2_3 (broadcastInDim S1x1x1x96 ![3] bcast_S96_S1x1x1x96_3 (V0 (Proc.devRef .tc main_arg4) : FVec Ideal S96 .f32))) : FVec Ideal S2x224x224x96 .f32) (ix4 b n w c) = (args V0).out b n w c := by
  refine (dot_read b n w c _ _ _).trans ?_
  unfold Args.out
  exact congrArg (· + _) (Finset.sum_congr rfl fun k _ => congrArg (· * _) (samp_at V0 b n w hg k))

end

/-- THE REFERENCE'S RESULT: at every index the deformed samples through the output projection. -/
theorem result (hg : (args V0).Good) :
    (addf (Host.dotGeneral (φ₂ := .f32) dot_S2x224x224x96_S96x96_S2x224x224x96_3_0_012_1_n_n none (shapeCast S2x224x224x96 (Host.reduceAdd (mulf (res_main_v292 V0) (broadcastInDim S2x224x224x4x9x24 ![0, 1, 2, 3, 4, 5] bcast_S2x224x224x4x9x1_S2x224x224x4x9x24_0_1_2_3_4_5 (broadcastInDim S2x224x224x4x9x1 ![0, 1, 2, 3, 4] bcast_S2x224x224x4x9_S2x224x224x4x9x1_0_1_2_3_4 (select (cmpf .oeq (res_main_call1_v5 V0) (broadcastInDim S2x224x224x4x9 ![] bcast_S_S2x224x224x4x9 (constant S_ .f32 0xFF800000#32))) (broadcastInDim S2x224x224x4x9 ![] bcast_S_S2x224x224x4x9 (constant S_ .f32 0xFF7FFFFF#32)) (res_main_call1_v5 V0))))) (constant S_ .f32 0x00000000#32) reducesTo_S2x224x224x4x9x24_S2x224x224x4x24_d4 h_S_) shapeCasts_S2x224x224x4x24_S2x224x224x96) (V0 (Proc.devRef .tc main_arg3) : FVec Ideal S96x96 .f32)) (broadcastInDim S2x224x224x96 ![0, 1, 2, 3] bcast_S1x1x1x96_S2x224x224x96_0_1_2_3 (broadcastInDim S1x1x1x96 ![3] bcast_S96_S1x1x1x96_3 (V0 (Proc.devRef .tc main_arg4) : FVec Ideal S96 .f32))) : FVec Ideal S2x224x224x96 .f32)
      = fun y => (args V0).out (y 0) (y 1).val (y 2).val (y 3) := by
  funext y
  have h : y = ix4 (y 0) (y 1) (y 2) (y 3) := by
    funext a; match a with | 0 => rfl | 1 => rfl | 2 => rfl | 3 => rfl
  exact (congrArg _ h).trans (out_at V0 (y 0) (y 1) (y 2) hg (y 3))

end Dcn.Reference

end
-- ==== Proof.PPre.lean ====
module

public import proofs.«01_k».proof.Proof.Pad
public import proofs.«01_k».proof.Proof.Words
public import proofs.«01_k».proof.Proof.Gen.Pre_within_reach
public import Idealize.ShloMosaic.Lib.Pointwise

@[expose] public section

set_option maxRecDepth 16384

/-! The precondition in numbers: real offsets of scaled size at most one, and real logits. -/

noncomputable section

open Idealize.ShloMosaic Idealize.ShloMosaic.TcCoe Idealize.SL.Sem

namespace Dcn.Pre
open Cert.Pre_within_reach Cert.Pre_within_reach.Gen

variable (A : Args)

/-- The padded image. -/
theorem pad_read (x : FVec Ideal S2x224x224x96 .f32) (b : Fin 2) (n w : Fin 226) (c : Fin 96) :
    fn_pad (F := Ideal) x (constantI S_ 32 0#32) (ix4 b n w c) = zpad (img x b) n w c := by
  unfold fn_pad
  exact pad_zero x _ (fun _ => zero_sitofp _ rfl) _ _ b n w c

/-- The offsets' bits: whether the scaled offset's size is at most one. -/
theorem off_read (b : Fin 2) (n w : Fin 224) (j : Fin 72) :
    (fn (F := Ideal) A.x A.Wi A.bi A.Wo A.bo A.D A.d A.Wp A.bp A.Wf A.bf A.Wk A.bk).1 (ix4 b n w j)
      = BitVec.ofBool (decide (FloatOps.absf (F := Ideal) (φ := .f32) (A.offs b n w j * Ideal.ofBits .f32 0x3DCCCCCD#32) ≤ (1 : EReal))) := by
  pointwise [fn, fn_part1, fn_part2, fn_part3, fn_part4, pad_read]
  rw [Nat.add_comm 1 (w : ℕ), Nat.add_comm 2 (w : ℕ), Nat.add_comm 1 (n : ℕ), Nat.add_comm 2 (n : ℕ)]
  rfl

/-- The logits' bits: whether the logit's size is below infinity. -/
theorem log_read (b : Fin 2) (n w : Fin 224) (j : Fin 36) :
    (fn (F := Ideal) A.x A.Wi A.bi A.Wo A.bo A.D A.d A.Wp A.bp A.Wf A.bf A.Wk A.bk).2 (ix4 b n w j)
      = BitVec.ofBool (decide (FloatOps.absf (F := Ideal) (φ := .f32) (A.logits b n w j) < Ideal.ofBits .f32 0x7F800000#32)) := by
  pointwise [fn, fn_part1, fn_part2, fn_part3, fn_part4, pad_read]
  rw [Nat.add_comm 1 (w : ℕ), Nat.add_comm 2 (w : ℕ), Nat.add_comm 1 (n : ℕ), Nat.add_comm 2 (n : ℕ)]
  rfl

/-- A bit that is one says what it tests. -/
theorem bit_one (q : Prop) [Decidable q] (h : BitVec.ofBool (decide q) = 1#1) : q := by
  by_contra hq
  rw [decide_eq_false hq] at h
  exact absurd h (by decide)

/-- The scale of the offsets is positive. -/
theorem sc_pos : (0 : ℝ) < sc := by
  unfold sc; norm_num

/-- Scaled size at most one: the number is real, and so is its bound. -/
theorem small_real (x : EReal) (h : FloatOps.absf (F := Ideal) (φ := .f32) (x * Ideal.ofBits .f32 0x3DCCCCCD#32) ≤ (1 : EReal)) :
    x = (x.toReal : EReal) ∧ |x.toReal * sc| ≤ 1 := by
  have h' : max (x * (sc : EReal)) (-(x * (sc : EReal))) ≤ 1 := (sc_word : _ = (sc : EReal)) ▸ h
  have ht : ¬ (⊤ : EReal) ≤ 1 := fun t => absurd (top_le_iff.mp t) (by exact_mod_cast EReal.coe_ne_top 1)
  induction x with
  | bot =>
    rw [EReal.bot_mul_coe_of_pos sc_pos, EReal.neg_bot] at h'
    exact absurd ((le_max_right _ _).trans h') ht
  | top =>
    rw [EReal.top_mul_coe_of_pos sc_pos] at h'
    exact absurd ((le_max_left _ _).trans h') ht
  | coe r =>
    refine ⟨rfl, ?_⟩
    rw [← EReal.coe_mul, ← EReal.coe_neg] at h'
    have h1 : r * sc ≤ 1 := by exact_mod_cast (le_max_left _ _).trans h'
    have h2 : -(r * sc) ≤ 1 := by exact_mod_cast (le_max_right _ _).trans h'
    show |r * sc| ≤ 1
    exact abs_le.mpr ⟨by linarith, h1⟩

/-- Size below infinity: the number is real. -/
theorem fin_real (x : EReal) (h : FloatOps.absf (F := Ideal) (φ := .f32) x < Ideal.ofBits .f32 0x7F800000#32) :
    x = (x.toReal : EReal) := by
  have h' : max x (-x) < (⊤ : EReal) := lt_of_lt_of_le h le_top
  induction x with
  | bot => exact absurd (lt_of_le_of_lt (le_max_right _ _) h') (by simp)
  | top => exact absurd (lt_of_le_of_lt (le_max_left _ _) h') (by simp)
  | coe r => rfl

/-- THE PRECONDITION: where both arrays of bits hold ones, the offsets are small reals and the logits real. -/
theorem good (h : (fn (F := Ideal) A.x A.Wi A.bi A.Wo A.bo A.D A.d A.Wp A.bp A.Wf A.bf A.Wk A.bk).1 = (fun _ => 1#1) ∧ (fn (F := Ideal) A.x A.Wi A.bi A.Wo A.bo A.D A.d A.Wp A.bp A.Wf A.bf A.Wk A.bk).2 = (fun _ => 1#1)) : A.Good where
  off b n w j := (small_real _ (bit_one _ ((off_read A b n w j).symm.trans (congrFun h.1 _)))).1
  small b n w j := (small_real _ (bit_one _ ((off_read A b n w j).symm.trans (congrFun h.1 _)))).2
  log b n w j := fin_real _ (bit_one _ ((log_read A b n w j).symm.trans (congrFun h.2 _)))

end Dcn.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_within_reach
public import proofs.«01_k».proof.Proof.Gen.KernelIdeal.Value
public import proofs.«01_k».proof.Proof.Gen.ReferenceIdeal.Run
public import proofs.«01_k».proof.Proof.KFinal
public import proofs.«01_k».proof.Proof.ROut
public import proofs.«01_k».proof.Proof.PPre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From memories that agree on the arguments, both programs read the same argument arrays. -/
theorem args_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10))
    (h11 : V0 (Proc.devRef .tc Cert.ReferenceIdeal.main_arg11) = m ((c.tc : Thread Cert.KernelIdeal.nD Cert.KernelIdeal.τ).loc Cert.KernelIdeal.main_arg11))
    (h12 : V0 (Proc.devRef .tc Cert.ReferenceIdeal.main_arg12) = m ((c.tc : Thread Cert.KernelIdeal.nD Cert.KernelIdeal.τ).loc Cert.KernelIdeal.main_arg12)) :
    Dcn.Reference.args V0 = Dcn.Kernel.args m c := by
  unfold Dcn.Reference.args Dcn.Kernel.args
  rw [Dcn.Args.mk.injEq]
  exact ⟨h0, h1, h2, h3, h4, h5, h6, h7, h8, h9, h10, h11, h12⟩

/-- The kernel's result and the reference's are the same array, wherever every sampling offset is at most one in size and
    every logit is real. -/
theorem algebraic : Cert.algebraic_KernelIdeal_ReferenceIdeal_pre_within_reach
    (hKernelIdeal := Cert.KernelIdeal.Gen.facts) (hReferenceIdeal := Cert.ReferenceIdeal.Gen.facts)
    (hPre_within_reach := Cert.Pre_within_reach.Gen.facts) := by
  intro m g m' g' hpre hagree
  have hg : ∀ c, (Dcn.Kernel.args m c).Good := fun c => Dcn.Pre.good (Dcn.Kernel.args m c) (hpre c)
  refine ⟨fun c => Dcn.Kernel.OUT (Dcn.Kernel.args m c), ?_, ?_⟩
  · run_from Cert.KernelIdeal.Gen.run_main m g
    exact Dcn.Kernel.final m c (hg c)
  · refine (θ_run Cert.ReferenceIdeal.defs _ _).mono (fun r h c => ⟨(h c).1.trans ?_, (h c).2⟩) (Cert.ReferenceIdeal.Value.run m' g')
    have ha : Dcn.Reference.args (StableHlo.launchContents m' c) = Dcn.Kernel.args m c := by
      obtain ⟨h0, h1, h2, h3, h4, h5, h6, h7, h8, h9, h10, h11, h12⟩ := hagree c
      exact args_eq m _ c h0 h1 h2 h3 h4 h5 h6 h7 h8 h9 h10 h11 h12
    refine (Dcn.Reference.result (StableHlo.launchContents m' c) (ha ▸ hg c)).trans ?_
    rw [ha]
    rfl

/-- The reference leaves its arguments as they were, and, declaring no semaphore, ends with every counter at zero. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run m g)

/-- Every claim of the certificate. -/
theorem claim : Cert.Claim := ⟨Cert.Kernel.Gen.facts, Cert.KernelIdeal.Gen.facts, Cert.ReferenceIdeal.Gen.facts, Cert.Pre_within_reach.Gen.facts,
  fun m g _ => Cert.Kernel.Gen.frame m g, fun m g _ => Cert.KernelIdeal.Gen.frame m g,
  fun m g _ => Cert.KernelIdeal.Gen.frame m g, reference_frame, fun m g _ => reference_frame m g trivial, trivial, algebraic⟩

end Cert.Proof

end
